-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v31_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v31_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v136) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v35_0)) (v1 : (c : Dev Cert.Kernel2Ideal.nD) → Buf (Elt Ideal) ((c.tc : Thread Cert.Kernel2Ideal.nD Cert.Kernel2Ideal.τ).loc Cert.Kernel2Ideal.main_v35_1)) (v2 : (c : Dev Cert.Kernel2Ideal.nD) → Buf (Elt Ideal) ((c.tc : Thread Cert.Kernel2Ideal.nD Cert.Kernel2Ideal.τ).loc Cert.Kernel2Ideal.main_v35_2)) (v3 : (c : Dev Cert.Kernel2Ideal.nD) → Buf (Elt Ideal) ((c.tc : Thread Cert.Kernel2Ideal.nD Cert.Kernel2Ideal.τ).loc Cert.Kernel2Ideal.main_v35_3)) (v4 : (c : Dev Cert.Kernel2Ideal.nD) → Buf (Elt Ideal) ((c.tc : Thread Cert.Kernel2Ideal.nD Cert.Kernel2Ideal.τ).loc Cert.Kernel2Ideal.main_v35_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v35_0) = v0 c
          ∧ r.2.mem ((c.tc : Thread Cert.Kernel2Ideal.nD Cert.Kernel2Ideal.τ).loc Cert.Kernel2Ideal.main_v35_1) = v1 c
          ∧ r.2.mem ((c.tc : Thread Cert.Kernel2Ideal.nD Cert.Kernel2Ideal.τ).loc Cert.Kernel2Ideal.main_v35_2) = v2 c
          ∧ r.2.mem ((c.tc : Thread Cert.Kernel2Ideal.nD Cert.Kernel2Ideal.τ).loc Cert.Kernel2Ideal.main_v35_3) = v3 c
          ∧ r.2.mem ((c.tc : Thread Cert.Kernel2Ideal.nD Cert.Kernel2Ideal.τ).loc Cert.Kernel2Ideal.main_v35_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_v58) = v1 c
          ∧ r.2.mem ((c.tc : Thread Cert.Reference2Ideal.nD Cert.Reference2Ideal.τ).loc Cert.Reference2Ideal.main_v18) = v2 c
          ∧ r.2.mem ((c.tc : Thread Cert.Reference2Ideal.nD Cert.Reference2Ideal.τ).loc Cert.Reference2Ideal.main_v62) = v3 c
          ∧ r.2.mem ((c.tc : Thread Cert.Reference2Ideal.nD Cert.Reference2Ideal.τ).loc Cert.Reference2Ideal.main_v64) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v35_1)) (v1 : (c : Dev Cert.Kernel4Ideal.nD) → Buf (Elt Ideal) ((c.tc : Thread Cert.Kernel4Ideal.nD Cert.Kernel4Ideal.τ).loc Cert.Kernel4Ideal.main_v35_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v35_1) = v0 c
          ∧ r.2.mem ((c.tc : Thread Cert.Kernel4Ideal.nD Cert.Kernel4Ideal.τ).loc Cert.Kernel4Ideal.main_v35_2) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v13_1)) (v1 : (c : Dev Cert.Kernel6Ideal.nD) → Buf (Elt Ideal) ((c.tc : Thread Cert.Kernel6Ideal.nD Cert.Kernel6Ideal.τ).loc Cert.Kernel6Ideal.main_v13_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13_1) = v0 c
          ∧ r.2.mem ((c.tc : Thread Cert.Kernel6Ideal.nD Cert.Kernel6Ideal.τ).loc Cert.Kernel6Ideal.main_v13_2) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v62) = v0 c
          ∧ r.2.mem ((c.tc : Thread Cert.Reference6Ideal.nD Cert.Reference6Ideal.τ).loc Cert.Reference6Ideal.main_v66) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S256x3456 : Shape := ⟨2, ![256, 3456]⟩
abbrev S32x3x256 : Shape := ⟨3, ![32, 3, 256]⟩
abbrev S32x256 : Shape := ⟨2, ![32, 256]⟩
abbrev S4x256 : Shape := ⟨2, ![4, 256]⟩
abbrev S256 : Shape := ⟨1, ![256]⟩
abbrev S4x64x64 : Shape := ⟨3, ![4, 64, 64]⟩
abbrev S1x256 : Shape := ⟨2, ![1, 256]⟩
abbrev S4x4 : Shape := ⟨2, ![4, 4]⟩
abbrev S_ : Shape := ⟨0, ![]⟩
abbrev S4x64x1x64 : Shape := ⟨4, ![4, 64, 1, 64]⟩
abbrev S4x1x4x1 : Shape := ⟨4, ![4, 1, 4, 1]⟩
abbrev S4x64x4x64 : Shape := ⟨4, ![4, 64, 4, 64]⟩
abbrev S256x256 : Shape := ⟨2, ![256, 256]⟩
abbrev S256x512 : Shape := ⟨2, ![256, 512]⟩
abbrev S512 : Shape := ⟨1, ![512]⟩
abbrev S1x512 : Shape := ⟨2, ![1, 512]⟩
abbrev S32x1x256 : Shape := ⟨3, ![32, 1, 256]⟩
abbrev S8x256 : Shape := ⟨2, ![8, 256]⟩
abbrev S1x3x256 : Shape := ⟨3, ![1, 3, 256]⟩
abbrev S1x1x256 : Shape := ⟨3, ![1, 1, 256]⟩
abbrev S16x256 : Shape := ⟨2, ![16, 256]⟩
abbrev S3x256 : Shape := ⟨2, ![3, 256]⟩
abbrev S8x512 : Shape := ⟨2, ![8, 512]⟩

abbrev nBuf : Space → Nat
  | .hbm => 46
  | .vmem => 24
  | .smem => 0
  | _ => 0

abbrev bufTy : (tb : Table) → Fin (tcTables nBuf tb) → BufTy
  | .hbm, ⟨0, _⟩ => ⟨S256x3456, .f32⟩
  | .hbm, ⟨1, _⟩ => ⟨S32x3x256, .f32⟩
  | .hbm, ⟨2, _⟩ => ⟨S32x256, .f32⟩
  | .hbm, ⟨3, _⟩ => ⟨S4x256, .f32⟩
  | .hbm, ⟨4, _⟩ => ⟨S256, .f32⟩
  | .hbm, ⟨5, _⟩ => ⟨S4x64x64, .f32⟩
  | .hbm, ⟨6, _⟩ => ⟨S256, .f32⟩
  | .hbm, ⟨7, _⟩ => ⟨S4x64x64, .f32⟩
  | .hbm, ⟨8, _⟩ => ⟨S256, .f32⟩
  | .hbm, ⟨9, _⟩ => ⟨S256, .f32⟩
  | .hbm, ⟨10, _⟩ => ⟨S1x256, .f32⟩
  | .hbm, ⟨11, _⟩ => ⟨S4x4, .i32⟩
  | .hbm, ⟨12, _⟩ => ⟨S4x4, .i32⟩
  | .hbm, ⟨13, _⟩ => ⟨S_, .i32⟩
  | .hbm, ⟨14, _⟩ => ⟨S4x4, .i32⟩
  | .hbm, ⟨15, _⟩ => ⟨S4x4, .i32⟩
  | .hbm, ⟨16, _⟩ => ⟨S4x4, .i1⟩
  | .hbm, ⟨17, _⟩ => ⟨S4x4, .f32⟩
  | .hbm, ⟨18, _⟩ => ⟨S4x64x1x64, .f32⟩
  | .hbm, ⟨19, _⟩ => ⟨S4x1x4x1, .f32⟩
  | .hbm, ⟨20, _⟩ => ⟨S4x64x4x64, .f32⟩
  | .hbm, ⟨21, _⟩ => ⟨S4x64x4x64, .f32⟩
  | .hbm, ⟨22, _⟩ => ⟨S4x64x4x64, .f32⟩
  | .hbm, ⟨23, _⟩ => ⟨S256x256, .f32⟩
  | .hbm, ⟨24, _⟩ => ⟨S4x4, .i32⟩
  | .hbm, ⟨25, _⟩ => ⟨S4x4, .i32⟩
  | .hbm, ⟨26, _⟩ => ⟨S_, .i32⟩
  | .hbm, ⟨27, _⟩ => ⟨S4x4, .i32⟩
  | .hbm, ⟨28, _⟩ => ⟨S4x4, .i32⟩
  | .hbm, ⟨29, _⟩ => ⟨S4x4, .i1⟩
  | .hbm, ⟨30, _⟩ => ⟨S4x4, .f32⟩
  | .hbm, ⟨31, _⟩ => ⟨S4x64x1x64, .f32⟩
  | .hbm, ⟨32, _⟩ => ⟨S4x1x4x1, .f32⟩
  | .hbm, ⟨33, _⟩ => ⟨S4x64x4x64, .f32⟩
  | .hbm, ⟨34, _⟩ => ⟨S4x64x4x64, .f32⟩
  | .hbm, ⟨35, _⟩ => ⟨S4x64x4x64, .f32⟩
  | .hbm, ⟨36, _⟩ => ⟨S256x256, .f32⟩
  | .hbm, ⟨37, _⟩ => ⟨S256x512, .f32⟩
  | .hbm, ⟨38, _⟩ => ⟨S256x512, .bf16⟩
  | .hbm, ⟨39, _⟩ => ⟨S512, .f32⟩
  | .hbm, ⟨40, _⟩ => ⟨S1x512, .f32⟩
  | .hbm, ⟨41, _⟩ => ⟨S1x256, .f32⟩
  | .hbm, ⟨42, _⟩ => ⟨S32x1x256, .f32⟩
  | .hbm, ⟨43, _⟩ => ⟨S256x256, .f32⟩
  | .hbm, ⟨44, _⟩ => ⟨S32x3x256, .f32⟩
  | .hbm, ⟨45, _⟩ => ⟨S32x1x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S1x3x256, .f32⟩
  | .local _ .vmem, ⟨5, _⟩ => ⟨S1x3x256, .f32⟩
  | .local _ .vmem, ⟨6, _⟩ => ⟨S1x1x256, .f32⟩
  | .local _ .vmem, ⟨7, _⟩ => ⟨S1x1x256, .f32⟩
  | .local _ .vmem, ⟨8, _⟩ => ⟨S4x256, .f32⟩
  | .local _ .vmem, ⟨9, _⟩ => ⟨S1x256, .f32⟩
  | .local _ .vmem, ⟨10, _⟩ => ⟨S256x512, .bf16⟩
  | .local _ .vmem, ⟨11, _⟩ => ⟨S1x512, .f32⟩
  | .local _ .vmem, ⟨12, _⟩ => ⟨S1x256, .f32⟩
  | .local _ .vmem, ⟨13, _⟩ => ⟨S8x256, .f32⟩
  | .local _ .vmem, ⟨14, _⟩ => ⟨S8x256, .f32⟩
  | .local _ .vmem, ⟨15, _⟩ => ⟨S1x3x256, .f32⟩
  | .local _ .vmem, ⟨16, _⟩ => ⟨S1x3x256, .f32⟩
  | .local _ .vmem, ⟨17, _⟩ => ⟨S1x1x256, .f32⟩
  | .local _ .vmem, ⟨18, _⟩ => ⟨S1x1x256, .f32⟩
  | .local _ .vmem, ⟨19, _⟩ => ⟨S16x256, .f32⟩
  | .local _ .vmem, ⟨20, _⟩ => ⟨S8x256, .f32⟩
  | .local _ .vmem, ⟨21, _⟩ => ⟨S8x256, .f32⟩
  | .local _ .vmem, ⟨22, _⟩ => ⟨S8x256, .f32⟩
  | .local _ .vmem, ⟨23, _⟩ => ⟨S8x256, .f32⟩
  | _, _ => ⟨S256x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v31_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![32, 1], ![false, false]⟩

def k0_mult1 : BitVec 32 :=
  let c0_i32_36 : BitVec 32 := 0#32
  let c8_i32 : BitVec 32 := 8#32
  let v94 : BitVec 32 := Scalar.muli c0_i32_36 c8_i32
  v94
def k0_off1 : Fin 2 → Nat :=
  let c0_i32_36 : BitVec 32 := 0#32
  let c8_i32 : BitVec 32 := 8#32
  let v94 : BitVec 32 := Scalar.muli c0_i32_36 c8_i32
  let v95 : BitVec 32 := v94
  let v96 : Index := Scalar.indexCast v95
  let c0_37 : Index := 0#32
  ![v96.toNat, 0]
def k0_cond2 (i : grid0.Coords) : BitVec 1 :=
  let arg1 : BitVec 32 := BitVec.ofNat 32 (i 1).val
  let c0_i32_60 : BitVec 32 := 0#32
  let v152 : BitVec 1 := Scalar.cmpi .eq arg1 c0_i32_60
  let v153 : BitVec 32 := Scalar.extui v152
  let c0_i32_61 : BitVec 32 := 0#32
  let v154 : BitVec 1 := Scalar.cmpi .ne v153 c0_i32_61
  v154

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S256x3456 : Shape := ⟨2, ![256, 3456]⟩
abbrev S32x3x256 : Shape := ⟨3, ![32, 3, 256]⟩
abbrev S32x256 : Shape := ⟨2, ![32, 256]⟩
abbrev S4x256 : Shape := ⟨2, ![4, 256]⟩
abbrev S256 : Shape := ⟨1, ![256]⟩
abbrev S4x64x64 : Shape := ⟨3, ![4, 64, 64]⟩
abbrev S256x256 : Shape := ⟨2, ![256, 256]⟩
abbrev S32x8x256 : Shape := ⟨3, ![32, 8, 256]⟩
abbrev S32x11x256 : Shape := ⟨3, ![32, 11, 256]⟩
abbrev S1x256 : Shape := ⟨2, ![1, 256]⟩
abbrev S1x1x256 : Shape := ⟨3, ![1, 1, 256]⟩
abbrev S32x8x4x64 : Shape := ⟨4, ![32, 8, 4, 64]⟩
abbrev S4x64x32x8 : Shape := ⟨4, ![4, 64, 32, 8]⟩
abbrev S_ : Shape := ⟨0, ![]⟩
abbrev S32x1x256 : Shape := ⟨3, ![32, 1, 256]⟩

abbrev nBuf : Space → Nat
  | .hbm => 174
  | .vmem => 0
  | .smem => 0
  | _ => 0

abbrev hbmTy0_0 (i : Nat) : BufTy := match i % 128 with
  | 0 => ⟨S256x3456, .f32⟩
  | 1 => ⟨S32x3x256, .f32⟩
  | 2 => ⟨S32x256, .f32⟩
  | 3 => ⟨S4x256, .f32⟩
  | 4 => ⟨S256, .f32⟩
  | 5 => ⟨S4x64x64, .f32⟩
  | 6 => ⟨S256, .f32⟩
  | 7 => ⟨S4x64x64, .f32⟩
  | 8 => ⟨S256, .f32⟩
  | 9 => ⟨S256, .f32⟩
  | 10 => ⟨S256x256, .f32⟩
  | 11 => ⟨S32x8x256, .f32⟩
  | 12 => ⟨S256x256, .f32⟩
  | 13 => ⟨S32x8x256, .f32⟩
  | 14 => ⟨S32x11x256, .f32⟩
  | 15 => ⟨S32x8x256, .f32⟩
  | 16 => ⟨S1x256, .f32⟩
  | 17 => ⟨S256, .f32⟩
  | 18 => ⟨S1x1x256, .f32⟩
  | 19 => ⟨S32x8x256, .f32⟩
  | 20 => ⟨S32x8x256, .f32⟩
  | 21 => ⟨S1x1x256, .f32⟩
  | 22 => ⟨S32x8x256, .f32⟩
  | 23 => ⟨S32x8x256, .f32⟩
  | 24 => ⟨S32x8x256, .f32⟩
  | 25 => ⟨S1x256, .f32⟩
  | 26 => ⟨S256, .f32⟩
  | 27 => ⟨S1x1x256, .f32⟩
  | 28 => ⟨S32x8x256, .f32⟩
  | 29 => ⟨S32x8x256, .f32⟩
  | 30 => ⟨S32x8x256, .f32⟩
  | 31 => ⟨S32x8x256, .f32⟩
  | 32 => ⟨S1x256, .f32⟩
  | 33 => ⟨S256, .f32⟩
  | 34 => ⟨S1x1x256, .f32⟩
  | 35 => ⟨S32x8x256, .f32⟩
  | 36 => ⟨S32x8x256, .f32⟩
  | 37 => ⟨S32x8x256, .f32⟩
  | 38 => ⟨S32x8x256, .f32⟩
  | 39 => ⟨S1x256, .f32⟩
  | 40 => ⟨S256, .f32⟩
  | 41 => ⟨S1x1x256, .f32⟩
  | 42 => ⟨S32x8x256, .f32⟩
  | 43 => ⟨S32x8x256, .f32⟩
  | 44 => ⟨S32x8x256, .f32⟩
  | 45 => ⟨S32x3x256, .f32⟩
  | 46 => ⟨S32x8x4x64, .f32⟩
  | 47 => ⟨S4x64x32x8, .f32⟩
  | 48 => ⟨S32x8x4x64, .f32⟩
  | 49 => ⟨S32x8x256, .f32⟩
  | 50 => ⟨S1x1x256, .f32⟩
  | 51 => ⟨S32x8x256, .f32⟩
  | 52 => ⟨S32x8x256, .f32⟩
  | 53 => ⟨S32x8x256, .f32⟩
  | 54 => ⟨S32x8x256, .f32⟩
  | 55 => ⟨S_, .f32⟩
  | 56 => ⟨S32x8x256, .f32⟩
  | 57 => ⟨S32x8x256, .f32⟩
  | 58 => ⟨S_, .f32⟩
  | 59 => ⟨S32x8x256, .f32⟩
  | 60 => ⟨S32x8x256, .f32⟩
  | 61 => ⟨S4x64x32x8, .f32⟩
  | 62 => ⟨S32x8x4x64, .f32⟩
  | 63 => ⟨S32x8x256, .f32⟩
  | 64 => ⟨S1x1x256, .f32⟩
  | 65 => ⟨S32x8x256, .f32⟩
  | 66 => ⟨S32x8x256, .f32⟩
  | 67 => ⟨S32x8x256, .f32⟩
  | 68 => ⟨S32x8x256, .f32⟩
  | 69 => ⟨S_, .f32⟩
  | 70 => ⟨S32x8x256, .f32⟩
  | 71 => ⟨S32x8x256, .f32⟩
  | 72 => ⟨S_, .f32⟩
  | 73 => ⟨S32x8x256, .f32⟩
  | 74 => ⟨S32x8x256, .f32⟩
  | 75 => ⟨S_, .f32⟩
  | 76 => ⟨S32x8x256, .f32⟩
  | 77 => ⟨S32x8x256, .f32⟩
  | 78 => ⟨S256, .f32⟩
  | 79 => ⟨S_, .f32⟩
  | 80 => ⟨S256, .f32⟩
  | 81 => ⟨S256, .f32⟩
  | 82 => ⟨S256, .f32⟩
  | 83 => ⟨S256, .f32⟩
  | 84 => ⟨S256, .i1⟩
  | 85 => ⟨S256, .f32⟩
  | 86 => ⟨S256, .f32⟩
  | 87 => ⟨S256, .f32⟩
  | 88 => ⟨S256, .f32⟩
  | 89 => ⟨S256, .f32⟩
  | 90 => ⟨S256, .f32⟩
  | 91 => ⟨S256, .f32⟩
  | 92 => ⟨S256, .f32⟩
  | 93 => ⟨S1x1x256, .f32⟩
  | 94 => ⟨S32x8x256, .f32⟩
  | 95 => ⟨S32x8x256, .f32⟩
  | 96 => ⟨S32x8x256, .f32⟩
  | 97 => ⟨S_, .f32⟩
  | 98 => ⟨S32x8x256, .f32⟩
  | 99 => ⟨S32x8x256, .f32⟩
  | 100 => ⟨S32x8x256, .f32⟩
  | 101 => ⟨S32x8x256, .f32⟩
  | 102 => ⟨S32x8x256, .f32⟩
  | 103 => ⟨S32x8x256, .f32⟩
  | 104 => ⟨S32x8x256, .f32⟩
  | 105 => ⟨S32x1x256, .f32⟩
  | 106 => ⟨S32x256, .f32⟩
  | 107 => ⟨S32x256, .f32⟩
  | 108 => ⟨S32x1x256, .f32⟩
  | 109 => ⟨S32x256, .f32⟩
  | 110 => ⟨S32x256, .f32⟩
  | 111 => ⟨S32x1x256, .f32⟩
  | 112 => ⟨S32x256, .f32⟩
  | 113 => ⟨S32x256, .f32⟩
  | 114 => ⟨S32x1x256, .f32⟩
  | 115 => ⟨S32x256, .f32⟩
  | 116 => ⟨S32x256, .f32⟩
  | 117 => ⟨S32x1x256, .f32⟩
  | 118 => ⟨S32x256, .f32⟩
  | 119 => ⟨S32x256, .f32⟩
  | 120 => ⟨S32x1x256, .f32⟩
  | 121 => ⟨S32x256, .f32⟩
  | 122 => ⟨S32x256, .f32⟩
  | 123 => ⟨S32x1x256, .f32⟩
  | 124 => ⟨S32x256, .f32⟩
  | 125 => ⟨S32x256, .f32⟩
  | 126 => ⟨S32x1x256, .f32⟩
  | 127 => ⟨S32x256, .f32⟩
  | _ => ⟨S256x3456, .f32⟩

abbrev hbmTy0_1 (i : Nat) : BufTy := match i % 128 with
  | 0 => ⟨S32x256, .f32⟩
  | 1 => ⟨S32x1x256, .f32⟩
  | 2 => ⟨S32x256, .f32⟩
  | 3 => ⟨S32x256, .f32⟩
  | 4 => ⟨S32x1x256, .f32⟩
  | 5 => ⟨S32x256, .f32⟩
  | 6 => ⟨S32x256, .f32⟩
  | 7 => ⟨S32x1x256, .f32⟩
  | 8 => ⟨S32x256, .f32⟩
  | 9 => ⟨S32x256, .f32⟩
  | 10 => ⟨S32x1x256, .f32⟩
  | 11 => ⟨S32x256, .f32⟩
  | 12 => ⟨S32x256, .f32⟩
  | 13 => ⟨S32x1x256, .f32⟩
  | 14 => ⟨S32x256, .f32⟩
  | 15 => ⟨S32x256, .f32⟩
  | 16 => ⟨S32x1x256, .f32⟩
  | 17 => ⟨S32x256, .f32⟩
  | 18 => ⟨S32x256, .f32⟩
  | 19 => ⟨S32x1x256, .f32⟩
  | 20 => ⟨S32x256, .f32⟩
  | 21 => ⟨S32x256, .f32⟩
  | 22 => ⟨S32x1x256, .f32⟩
  | 23 => ⟨S32x256, .f32⟩
  | 24 => ⟨S32x256, .f32⟩
  | 25 => ⟨S32x1x256, .f32⟩
  | 26 => ⟨S32x1x256, .f32⟩
  | 27 => ⟨S32x1x256, .f32⟩
  | 28 => ⟨S32x1x256, .f32⟩
  | 29 => ⟨S32x1x256, .f32⟩
  | 30 => ⟨S32x1x256, .f32⟩
  | 31 => ⟨S32x1x256, .f32⟩
  | 32 => ⟨S32x1x256, .f32⟩
  | 33 => ⟨S32x8x256, .f32⟩
  | 34 => ⟨S32x8x256, .f32⟩
  | 35 => ⟨S32x8x256, .f32⟩
  | 36 => ⟨S_, .f32⟩
  | 37 => ⟨S32x8x256, .f32⟩
  | 38 => ⟨S32x8x256, .f32⟩
  | 39 => ⟨S_, .f32⟩
  | 40 => ⟨S32x8x256, .f32⟩
  | 41 => ⟨S32x8x256, .f32⟩
  | 42 => ⟨S32x8x256, .f32⟩
  | 43 => ⟨S32x8x256, .f32⟩
  | 44 => ⟨S256x256, .f32⟩
  | 45 => ⟨S32x1x256, .f32⟩
  | _ => ⟨S256x3456, .f32⟩

abbrev hbmTy (i : Nat) : BufTy := match i / 128 with
  | 0 => hbmTy0_0 i
  | 1 => hbmTy0_1 i
  | _ => ⟨S256x3456, .f32⟩

abbrev bufTy : (tb : Table) → Fin (tcTables nBuf tb) → BufTy
  | .hbm, ⟨i, _⟩ => hbmTy i
  | _, _ => ⟨S256x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst : Ref sig .tc := ⟨.hbm, 55, rfl⟩
abbrev main_v45 : Ref sig .tc := ⟨.hbm, 56, rfl⟩
abbrev main_v46 : Ref sig .tc := ⟨.hbm, 57, rfl⟩
abbrev main_cst_0 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_1 : Ref sig .tc := ⟨.hbm, 69, rfl⟩
abbrev main_v57 : Ref sig .tc := ⟨.hbm, 70, rfl⟩
abbrev main_v58 : Ref sig .tc := ⟨.hbm, 71, rfl⟩
abbrev main_cst_2 : Ref sig .tc := ⟨.hbm, 72, rfl⟩
abbrev main_v59 : Ref sig .tc := ⟨.hbm, 73, rfl⟩
abbrev main_v60 : Ref sig .tc := ⟨.hbm, 74, rfl⟩
abbrev main_cst_3 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_v8 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_4 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_call1_v0 : Ref sig .tc := ⟨.hbm, 162, rfl⟩
abbrev main_call1_v1 : Ref sig .tc := ⟨.hbm, 163, rfl⟩
abbrev main_call1_cst : Ref sig .tc := ⟨.hbm, 164, rfl⟩
abbrev main_call1_v2 : Ref sig .tc := ⟨.hbm, 165, rfl⟩
abbrev main_call1_v3 : Ref sig .tc := ⟨.hbm, 166, rfl⟩
abbrev main_call1_cst_0 : Ref sig .tc := ⟨.hbm, 167, rfl⟩
abbrev main_call1_v4 : Ref sig .tc := ⟨.hbm, 168, rfl⟩
abbrev main_call1_v5 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x3336 : Shape := ⟨2, ![1024, 3336]⟩
abbrev S64 : Shape := ⟨1, ![64]⟩
abbrev S1024x256 : Shape := ⟨2, ![1024, 256]⟩
abbrev S1024x512 : Shape := ⟨2, ![1024, 512]⟩
abbrev S1024x4 : Shape := ⟨2, ![1024, 4]⟩
abbrev S_ : Shape := ⟨0, ![]⟩
abbrev S1024x120 : Shape := ⟨2, ![1024, 120]⟩
abbrev S1024x3456 : Shape := ⟨2, ![1024, 3456]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S4x64 : Shape := ⟨2, ![4, 64]⟩
abbrev S256 : Shape := ⟨1, ![256]⟩
abbrev S1x256 : Shape := ⟨2, ![1, 256]⟩
abbrev S8x8 : Shape := ⟨2, ![8, 8]⟩
abbrev S8x1x8x1 : Shape := ⟨4, ![8, 1, 8, 1]⟩
abbrev S8x64x8x64 : Shape := ⟨4, ![8, 64, 8, 64]⟩
abbrev S512x512 : Shape := ⟨2, ![512, 512]⟩
abbrev S16384x3456 : Shape := ⟨2, ![16384, 3456]⟩
abbrev S16384x256 : Shape := ⟨2, ![16384, 256]⟩
abbrev S2x256x8192 : Shape := ⟨3, ![2, 256, 8192]⟩
abbrev S512x1024 : Shape := ⟨2, ![512, 1024]⟩
abbrev S512x3456 : Shape := ⟨2, ![512, 3456]⟩
abbrev S512x256 : Shape := ⟨2, ![512, 256]⟩
abbrev S1x256x512 : Shape := ⟨3, ![1, 256, 512]⟩
abbrev S512x1 : Shape := ⟨2, ![512, 1]⟩
abbrev S256x256 : Shape := ⟨2, ![256, 256]⟩
abbrev S256x512 : Shape := ⟨2, ![256, 512]⟩

abbrev nBuf : Space → Nat
  | .hbm => 47
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3336, .f32⟩
  | .hbm, ⟨3, _⟩ => ⟨S64, .f32⟩
  | .hbm, ⟨4, _⟩ => ⟨S64, .f32⟩
  | .hbm, ⟨5, _⟩ => ⟨S1024x256, .f32⟩
  | .hbm, ⟨6, _⟩ => ⟨S1024x256, .f32⟩
  | .hbm, ⟨7, _⟩ => ⟨S1024x512, .f32⟩
  | .hbm, ⟨8, _⟩ => ⟨S1024x512, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S1024x4, .f32⟩
  | .hbm, ⟨17, _⟩ => ⟨S1024x4, .f32⟩
  | .hbm, ⟨18, _⟩ => ⟨S_, .f32⟩
  | .hbm, ⟨19, _⟩ => ⟨S1024x120, .f32⟩
  | .hbm, ⟨20, _⟩ => ⟨S1024x3456, .f32⟩
  | .hbm, ⟨21, _⟩ => ⟨S1024x3456, .bf16⟩
  | .hbm, ⟨22, _⟩ => ⟨S1x1024, .f32⟩
  | .hbm, ⟨23, _⟩ => ⟨S1x64, .f32⟩
  | .hbm, ⟨24, _⟩ => ⟨S8x64, .f32⟩
  | .hbm, ⟨25, _⟩ => ⟨S512, .f32⟩
  | .hbm, ⟨26, _⟩ => ⟨S1x512, .f32⟩
  | .hbm, ⟨27, _⟩ => ⟨S1x64, .f32⟩
  | .hbm, ⟨28, _⟩ => ⟨S4x64, .f32⟩
  | .hbm, ⟨29, _⟩ => ⟨S256, .f32⟩
  | .hbm, ⟨30, _⟩ => ⟨S1x256, .f32⟩
  | .hbm, ⟨31, _⟩ => ⟨S8x8, .i32⟩
  | .hbm, ⟨32, _⟩ => ⟨S8x8, .i32⟩
  | .hbm, ⟨33, _⟩ => ⟨S_, .i32⟩
  | .hbm, ⟨34, _⟩ => ⟨S8x8, .i32⟩
  | .hbm, ⟨35, _⟩ => ⟨S8x8, .i32⟩
  | .hbm, ⟨36, _⟩ => ⟨S8x8, .i1⟩
  | .hbm, ⟨37, _⟩ => ⟨S8x8, .f32⟩
  | .hbm, ⟨38, _⟩ => ⟨S8x1x8x1, .f32⟩
  | .hbm, ⟨39, _⟩ => ⟨S8x64x8x64, .f32⟩
  | .hbm, ⟨40, _⟩ => ⟨S512x512, .f32⟩
  | .hbm, ⟨41, _⟩ => ⟨S512x512, .bf16⟩
  | .hbm, ⟨42, _⟩ => ⟨S16384x3456, .f32⟩
  | .hbm, ⟨43, _⟩ => ⟨S16384x256, .f32⟩
  | .hbm, ⟨44, _⟩ => ⟨S16384x256, .f32⟩
  | .hbm, ⟨45, _⟩ => ⟨S2x256x8192, .f32⟩
  | .hbm, ⟨46, _⟩ => ⟨S2x256x8192, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S1x512, .f32⟩
  | .local _ .vmem, ⟨5, _⟩ => ⟨S1x256, .f32⟩
  | .local _ .vmem, ⟨6, _⟩ => ⟨S512x512, .bf16⟩
  | .local _ .vmem, ⟨7, _⟩ => ⟨S512x3456, .f32⟩
  | .local _ .vmem, ⟨8, _⟩ => ⟨S512x3456, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35_0 : Ref sig .tc := ⟨.hbm, 42, rfl⟩
abbrev main_v35_1 : Ref sig .tc := ⟨.hbm, 43, rfl⟩
abbrev main_v35_2 : Ref sig .tc := ⟨.hbm, 44, rfl⟩
abbrev main_v35_3 : Ref sig .tc := ⟨.hbm, 45, rfl⟩
abbrev main_v35_4 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3456 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S16384x1024 : Shape := ⟨2, ![16384, 1024]⟩
abbrev S1024 : Shape := ⟨1, ![1024]⟩
abbrev S1024x3336 : Shape := ⟨2, ![1024, 3336]⟩
abbrev S64 : Shape := ⟨1, ![64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3336 : Shape := ⟨2, ![16384, 3336]⟩
abbrev S16384x256 : Shape := ⟨2, ![16384, 256]⟩
abbrev S16384x512 : Shape := ⟨2, ![16384, 512]⟩
abbrev S16384x4 : Shape := ⟨2, ![16384, 4]⟩
abbrev S16384x8x64 : Shape := ⟨3, ![16384, 8, 64]⟩
abbrev S16384x8 : Shape := ⟨2, ![16384, 8]⟩
abbrev S16384x8x1 : Shape := ⟨3, ![16384, 8, 1]⟩
abbrev S1x1x64 : Shape := ⟨3, ![1, 1, 64]⟩
abbrev S16384x4x64 : Shape := ⟨3, ![16384, 4, 64]⟩
abbrev S16384x4x1 : Shape := ⟨3, ![16384, 4, 1]⟩
abbrev S16384x120 : Shape := ⟨2, ![16384, 120]⟩
abbrev S16384x3456 : Shape := ⟨2, ![16384, 3456]⟩
abbrev S2x8192x256 : Shape := ⟨3, ![2, 8192, 256]⟩
abbrev S2x256x8192 : Shape := ⟨3, ![2, 256, 8192]⟩

abbrev nBuf : Space → Nat
  | .hbm => 81
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3336, .f32⟩
  | .hbm, ⟨3, _⟩ => ⟨S64, .f32⟩
  | .hbm, ⟨4, _⟩ => ⟨S64, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x3336, .f32⟩
  | .hbm, ⟨22, _⟩ => ⟨S16384x256, .f32⟩
  | .hbm, ⟨23, _⟩ => ⟨S16384x256, .f32⟩
  | .hbm, ⟨24, _⟩ => ⟨S16384x512, .f32⟩
  | .hbm, ⟨25, _⟩ => ⟨S16384x256, .f32⟩
  | .hbm, ⟨26, _⟩ => ⟨S16384x256, .f32⟩
  | .hbm, ⟨27, _⟩ => ⟨S16384x512, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S16384x4, .f32⟩
  | .hbm, ⟨32, _⟩ => ⟨S16384x4, .f32⟩
  | .hbm, ⟨33, _⟩ => ⟨S16384x256, .f32⟩
  | .hbm, ⟨34, _⟩ => ⟨S16384x256, .f32⟩
  | .hbm, ⟨35, _⟩ => ⟨S16384x8x64, .f32⟩
  | .hbm, ⟨36, _⟩ => ⟨S16384x8x64, .f32⟩
  | .hbm, ⟨37, _⟩ => ⟨S_, .f32⟩
  | .hbm, ⟨38, _⟩ => ⟨S16384x8, .f32⟩
  | .hbm, ⟨39, _⟩ => ⟨S16384x8x1, .f32⟩
  | .hbm, ⟨40, _⟩ => ⟨S_, .f32⟩
  | .hbm, ⟨41, _⟩ => ⟨S16384x8x1, .f32⟩
  | .hbm, ⟨42, _⟩ => ⟨S16384x8x1, .f32⟩
  | .hbm, ⟨43, _⟩ => ⟨S_, .f32⟩
  | .hbm, ⟨44, _⟩ => ⟨S16384x8x1, .f32⟩
  | .hbm, ⟨45, _⟩ => ⟨S16384x8x1, .f32⟩
  | .hbm, ⟨46, _⟩ => ⟨S16384x8x1, .f32⟩
  | .hbm, ⟨47, _⟩ => ⟨S16384x8x64, .f32⟩
  | .hbm, ⟨48, _⟩ => ⟨S16384x8x64, .f32⟩
  | .hbm, ⟨49, _⟩ => ⟨S1x1x64, .f32⟩
  | .hbm, ⟨50, _⟩ => ⟨S16384x8x64, .f32⟩
  | .hbm, ⟨51, _⟩ => ⟨S16384x8x64, .f32⟩
  | .hbm, ⟨52, _⟩ => ⟨S_, .f32⟩
  | .hbm, ⟨53, _⟩ => ⟨S16384x8x64, .f32⟩
  | .hbm, ⟨54, _⟩ => ⟨S16384x8x64, .f32⟩
  | .hbm, ⟨55, _⟩ => ⟨S16384x4x64, .f32⟩
  | .hbm, ⟨56, _⟩ => ⟨S16384x4x64, .f32⟩
  | .hbm, ⟨57, _⟩ => ⟨S_, .f32⟩
  | .hbm, ⟨58, _⟩ => ⟨S16384x4, .f32⟩
  | .hbm, ⟨59, _⟩ => ⟨S16384x4x1, .f32⟩
  | .hbm, ⟨60, _⟩ => ⟨S_, .f32⟩
  | .hbm, ⟨61, _⟩ => ⟨S16384x4x1, .f32⟩
  | .hbm, ⟨62, _⟩ => ⟨S16384x4x1, .f32⟩
  | .hbm, ⟨63, _⟩ => ⟨S_, .f32⟩
  | .hbm, ⟨64, _⟩ => ⟨S16384x4x1, .f32⟩
  | .hbm, ⟨65, _⟩ => ⟨S16384x4x1, .f32⟩
  | .hbm, ⟨66, _⟩ => ⟨S16384x4x1, .f32⟩
  | .hbm, ⟨67, _⟩ => ⟨S16384x4x64, .f32⟩
  | .hbm, ⟨68, _⟩ => ⟨S16384x4x64, .f32⟩
  | .hbm, ⟨69, _⟩ => ⟨S1x1x64, .f32⟩
  | .hbm, ⟨70, _⟩ => ⟨S16384x4x64, .f32⟩
  | .hbm, ⟨71, _⟩ => ⟨S16384x4x64, .f32⟩
  | .hbm, ⟨72, _⟩ => ⟨S16384x512, .f32⟩
  | .hbm, ⟨73, _⟩ => ⟨S16384x256, .f32⟩
  | .hbm, ⟨74, _⟩ => ⟨S_, .f32⟩
  | .hbm, ⟨75, _⟩ => ⟨S16384x120, .f32⟩
  | .hbm, ⟨76, _⟩ => ⟨S16384x3456, .f32⟩
  | .hbm, ⟨77, _⟩ => ⟨S2x8192x256, .f32⟩
  | .hbm, ⟨78, _⟩ => ⟨S2x256x8192, .f32⟩
  | .hbm, ⟨79, _⟩ => ⟨S2x8192x256, .f32⟩
  | .hbm, ⟨80, _⟩ => ⟨S2x256x8192, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩

abbrev nD : Nat := 1
abbrev τ : Topo := Topo.v7x

variable {F : FTy → Type} [FloatOps F]
-- ==== Kernel3.lean ====
abbrev S16384x1024 : Shape := ⟨2, ![16384, 1024]⟩
abbrev S16384x256 : Shape := ⟨2, ![16384, 256]⟩
abbrev S16384x512 : Shape := ⟨2, ![16384, 512]⟩
abbrev S16384x3456 : Shape := ⟨2, ![16384, 3456]⟩
abbrev S32768x256 : Shape := ⟨2, ![32768, 256]⟩
abbrev S1024x1024 : Shape := ⟨2, ![1024, 1024]⟩
abbrev S256x1024 : Shape := ⟨2, ![256, 1024]⟩
abbrev S1024 : Shape := ⟨1, ![1024]⟩
abbrev S512x1024 : Shape := ⟨2, ![512, 1024]⟩
abbrev S1x1024 : Shape := ⟨2, ![1, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 20
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x512, .f32⟩
  | .hbm, ⟨3, _⟩ => ⟨S16384x3456, .f32⟩
  | .hbm, ⟨4, _⟩ => ⟨S16384x256, .f32⟩
  | .hbm, ⟨5, _⟩ => ⟨S32768x256, .f32⟩
  | .hbm, ⟨6, _⟩ => ⟨S1024x1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S256x1024, .f32⟩
  | .hbm, ⟨11, _⟩ => ⟨S256x1024, .bf16⟩
  | .hbm, ⟨12, _⟩ => ⟨S512x1024, .f32⟩
  | .hbm, ⟨13, _⟩ => ⟨S512x1024, .bf16⟩
  | .hbm, ⟨14, _⟩ => ⟨S256x1024, .f32⟩
  | .hbm, ⟨15, _⟩ => ⟨S256x1024, .bf16⟩
  | .hbm, ⟨16, _⟩ => ⟨S1024x1024, .bf16⟩
  | .hbm, ⟨17, _⟩ => ⟨S256x1024, .bf16⟩
  | .hbm, ⟨18, _⟩ => ⟨S1x1024, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S256x1024, .bf16⟩
  | .local _ .vmem, ⟨13, _⟩ => ⟨S512x1024, .bf16⟩
  | .local _ .vmem, ⟨14, _⟩ => ⟨S256x1024, .bf16⟩
  | .local _ .vmem, ⟨15, _⟩ => ⟨S1024x1024, .bf16⟩
  | .local _ .vmem, ⟨16, _⟩ => ⟨S256x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S16384x1024 : Shape := ⟨2, ![16384, 1024]⟩
abbrev S16384x256 : Shape := ⟨2, ![16384, 256]⟩
abbrev S16384x512 : Shape := ⟨2, ![16384, 512]⟩
abbrev S16384x3456 : Shape := ⟨2, ![16384, 3456]⟩
abbrev S32768x256 : Shape := ⟨2, ![32768, 256]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x512, .f32⟩
  | .hbm, ⟨3, _⟩ => ⟨S16384x3456, .f32⟩
  | .hbm, ⟨4, _⟩ => ⟨S16384x256, .f32⟩
  | .hbm, ⟨5, _⟩ => ⟨S32768x256, .f32⟩
  | .hbm, ⟨6, _⟩ => ⟨S1024x1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S_, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x256, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_cst_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_1 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩

abbrev nD : Nat := 1
abbrev τ : Topo := Topo.v7x

variable {F : FTy → Type} [FloatOps F]
-- ==== Kernel4.lean ====
abbrev S256x1024 : Shape := ⟨2, ![256, 1024]⟩
abbrev S1024 : Shape := ⟨1, ![1024]⟩
abbrev S1024x3336 : Shape := ⟨2, ![1024, 3336]⟩
abbrev S64 : Shape := ⟨1, ![64]⟩
abbrev S1024x256 : Shape := ⟨2, ![1024, 256]⟩
abbrev S1024x512 : Shape := ⟨2, ![1024, 512]⟩
abbrev S1024x4 : Shape := ⟨2, ![1024, 4]⟩
abbrev S_ : Shape := ⟨0, ![]⟩
abbrev S1024x120 : Shape := ⟨2, ![1024, 120]⟩
abbrev S1024x3456 : Shape := ⟨2, ![1024, 3456]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S4x64 : Shape := ⟨2, ![4, 64]⟩
abbrev S256 : Shape := ⟨1, ![256]⟩
abbrev S1x256 : Shape := ⟨2, ![1, 256]⟩
abbrev S8x8 : Shape := ⟨2, ![8, 8]⟩
abbrev S8x1x8x1 : Shape := ⟨4, ![8, 1, 8, 1]⟩
abbrev S8x64x8x64 : Shape := ⟨4, ![8, 64, 8, 64]⟩
abbrev S512x512 : Shape := ⟨2, ![512, 512]⟩
abbrev S256x3456 : Shape := ⟨2, ![256, 3456]⟩
abbrev S256x256 : Shape := ⟨2, ![256, 256]⟩
abbrev S256x1 : Shape := ⟨2, ![256, 1]⟩
abbrev S256x512 : Shape := ⟨2, ![256, 512]⟩

abbrev nBuf : Space → Nat
  | .hbm => 45
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x3336, .f32⟩
  | .hbm, ⟨3, _⟩ => ⟨S64, .f32⟩
  | .hbm, ⟨4, _⟩ => ⟨S64, .f32⟩
  | .hbm, ⟨5, _⟩ => ⟨S1024x256, .f32⟩
  | .hbm, ⟨6, _⟩ => ⟨S1024x256, .f32⟩
  | .hbm, ⟨7, _⟩ => ⟨S1024x512, .f32⟩
  | .hbm, ⟨8, _⟩ => ⟨S1024x512, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S1024x4, .f32⟩
  | .hbm, ⟨17, _⟩ => ⟨S1024x4, .f32⟩
  | .hbm, ⟨18, _⟩ => ⟨S_, .f32⟩
  | .hbm, ⟨19, _⟩ => ⟨S1024x120, .f32⟩
  | .hbm, ⟨20, _⟩ => ⟨S1024x3456, .f32⟩
  | .hbm, ⟨21, _⟩ => ⟨S1024x3456, .bf16⟩
  | .hbm, ⟨22, _⟩ => ⟨S1x1024, .f32⟩
  | .hbm, ⟨23, _⟩ => ⟨S1x64, .f32⟩
  | .hbm, ⟨24, _⟩ => ⟨S8x64, .f32⟩
  | .hbm, ⟨25, _⟩ => ⟨S512, .f32⟩
  | .hbm, ⟨26, _⟩ => ⟨S1x512, .f32⟩
  | .hbm, ⟨27, _⟩ => ⟨S1x64, .f32⟩
  | .hbm, ⟨28, _⟩ => ⟨S4x64, .f32⟩
  | .hbm, ⟨29, _⟩ => ⟨S256, .f32⟩
  | .hbm, ⟨30, _⟩ => ⟨S1x256, .f32⟩
  | .hbm, ⟨31, _⟩ => ⟨S8x8, .i32⟩
  | .hbm, ⟨32, _⟩ => ⟨S8x8, .i32⟩
  | .hbm, ⟨33, _⟩ => ⟨S_, .i32⟩
  | .hbm, ⟨34, _⟩ => ⟨S8x8, .i32⟩
  | .hbm, ⟨35, _⟩ => ⟨S8x8, .i32⟩
  | .hbm, ⟨36, _⟩ => ⟨S8x8, .i1⟩
  | .hbm, ⟨37, _⟩ => ⟨S8x8, .f32⟩
  | .hbm, ⟨38, _⟩ => ⟨S8x1x8x1, .f32⟩
  | .hbm, ⟨39, _⟩ => ⟨S8x64x8x64, .f32⟩
  | .hbm, ⟨40, _⟩ => ⟨S512x512, .f32⟩
  | .hbm, ⟨41, _⟩ => ⟨S512x512, .bf16⟩
  | .hbm, ⟨42, _⟩ => ⟨S256x3456, .f32⟩
  | .hbm, ⟨43, _⟩ => ⟨S256x256, .f32⟩
  | .hbm, ⟨44, _⟩ => ⟨S256x256, .f32⟩
  | .local _ .vmem, ⟨0, _⟩ => ⟨S256x1024, .f32⟩
  | .local _ .vmem, ⟨1, _⟩ => ⟨S1x1024, .f32⟩
  | .local _ .vmem, ⟨2, _⟩ => ⟨S1024x3456, .bf16⟩
  | .local _ .vmem, ⟨3, _⟩ => ⟨S1x512, .f32⟩
  | .local _ .vmem, ⟨4, _⟩ => ⟨S1x256, .f32⟩
  | .local _ .vmem, ⟨5, _⟩ => ⟨S512x512, .bf16⟩
  | .local _ .vmem, ⟨6, _⟩ => ⟨S256x3456, .f32⟩
  | .local _ .vmem, ⟨7, _⟩ => ⟨S256x256, .f32⟩
  | .local _ .vmem, ⟨8, _⟩ => ⟨S256x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35_0 : Ref sig .tc := ⟨.hbm, 42, rfl⟩
abbrev main_v35_1 : Ref sig .tc := ⟨.hbm, 43, rfl⟩
abbrev main_v35_2 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x3456 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference4Ideal.lean ====
abbrev S256x1024 : Shape := ⟨2, ![256, 1024]⟩
abbrev S1024 : Shape := ⟨1, ![1024]⟩
abbrev S1024x3336 : Shape := ⟨2, ![1024, 3336]⟩
abbrev S64 : Shape := ⟨1, ![64]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x3336 : Shape := ⟨2, ![256, 3336]⟩
abbrev S256x256 : Shape := ⟨2, ![256, 256]⟩
abbrev S256x4x64 : Shape := ⟨3, ![256, 4, 64]⟩
abbrev S256x4 : Shape := ⟨2, ![256, 4]⟩
abbrev S256x4x1 : Shape := ⟨3, ![256, 4, 1]⟩
abbrev S1x1x64 : Shape := ⟨3, ![1, 1, 64]⟩

abbrev nBuf : Space → Nat
  | .hbm => 42
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x3336, .f32⟩
  | .hbm, ⟨3, _⟩ => ⟨S64, .f32⟩
  | .hbm, ⟨4, _⟩ => ⟨S64, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S256x3336, .f32⟩
  | .hbm, ⟨22, _⟩ => ⟨S256x256, .f32⟩
  | .hbm, ⟨23, _⟩ => ⟨S256x4x64, .f32⟩
  | .hbm, ⟨24, _⟩ => ⟨S256x4x64, .f32⟩
  | .hbm, ⟨25, _⟩ => ⟨S_, .f32⟩
  | .hbm, ⟨26, _⟩ => ⟨S256x4, .f32⟩
  | .hbm, ⟨27, _⟩ => ⟨S256x4x1, .f32⟩
  | .hbm, ⟨28, _⟩ => ⟨S_, .f32⟩
  | .hbm, ⟨29, _⟩ => ⟨S256x4x1, .f32⟩
  | .hbm, ⟨30, _⟩ => ⟨S256x4x1, .f32⟩
  | .hbm, ⟨31, _⟩ => ⟨S_, .f32⟩
  | .hbm, ⟨32, _⟩ => ⟨S256x4x1, .f32⟩
  | .hbm, ⟨33, _⟩ => ⟨S256x4x1, .f32⟩
  | .hbm, ⟨34, _⟩ => ⟨S256x4x1, .f32⟩
  | .hbm, ⟨35, _⟩ => ⟨S256x4x64, .f32⟩
  | .hbm, ⟨36, _⟩ => ⟨S256x4x64, .f32⟩
  | .hbm, ⟨37, _⟩ => ⟨S1x1x64, .f32⟩
  | .hbm, ⟨38, _⟩ => ⟨S256x4x64, .f32⟩
  | .hbm, ⟨39, _⟩ => ⟨S256x4x64, .f32⟩
  | .hbm, ⟨40, _⟩ => ⟨S256x256, .f32⟩
  | .hbm, ⟨41, _⟩ => ⟨S256x256, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel5.lean ====
abbrev S256x1024 : Shape := ⟨2, ![256, 1024]⟩
abbrev S256x256 : Shape := ⟨2, ![256, 256]⟩
abbrev S256x512 : Shape := ⟨2, ![256, 512]⟩
abbrev S256x3456 : Shape := ⟨2, ![256, 3456]⟩
abbrev S512x256 : Shape := ⟨2, ![512, 256]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S256 : Shape := ⟨1, ![256]⟩
abbrev S256x1 : Shape := ⟨2, ![256, 1]⟩

abbrev nBuf : Space → Nat
  | .hbm => 20
  | .vmem => 13
  | .smem => 0
  | _ => 0

abbrev bufTy : (tb : Table) → Fin (tcTables nBuf tb) → BufTy
  | .hbm, ⟨0, _⟩ => ⟨S256x1024, .f32⟩
  | .hbm, ⟨1, _⟩ => ⟨S256x256, .f32⟩
  | .hbm, ⟨2, _⟩ => ⟨S256x512, .f32⟩
  | .hbm, ⟨3, _⟩ => ⟨S256x3456, .f32⟩
  | .hbm, ⟨4, _⟩ => ⟨S256x256, .f32⟩
  | .hbm, ⟨5, _⟩ => ⟨S512x256, .f32⟩
  | .hbm, ⟨6, _⟩ => ⟨S1024x1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S256x1024, .f32⟩
  | .hbm, ⟨11, _⟩ => ⟨S256x1024, .bf16⟩
  | .hbm, ⟨12, _⟩ => ⟨S512x1024, .f32⟩
  | .hbm, ⟨13, _⟩ => ⟨S512x1024, .bf16⟩
  | .hbm, ⟨14, _⟩ => ⟨S256x1024, .f32⟩
  | .hbm, ⟨15, _⟩ => ⟨S256x1024, .bf16⟩
  | .hbm, ⟨16, _⟩ => ⟨S1024x1024, .bf16⟩
  | .hbm, ⟨17, _⟩ => ⟨S256x1024, .bf16⟩
  | .hbm, ⟨18, _⟩ => ⟨S1x1024, .f32⟩
  | .hbm, ⟨19, _⟩ => ⟨S256x1024, .f32⟩
  | .local _ .vmem, ⟨0, _⟩ => ⟨S256x1024, .f32⟩
  | .local _ .vmem, ⟨1, _⟩ => ⟨S256x256, .f32⟩
  | .local _ .vmem, ⟨2, _⟩ => ⟨S256x512, .f32⟩
  | .local _ .vmem, ⟨3, _⟩ => ⟨S256x512, .f32⟩
  | .local _ .vmem, ⟨4, _⟩ => ⟨S256x256, .f32⟩
  | .local _ .vmem, ⟨5, _⟩ => ⟨S256x256, .f32⟩
  | .local _ .vmem, ⟨6, _⟩ => ⟨S256x1024, .bf16⟩
  | .local _ .vmem, ⟨7, _⟩ => ⟨S512x1024, .bf16⟩
  | .local _ .vmem, ⟨8, _⟩ => ⟨S256x1024, .bf16⟩
  | .local _ .vmem, ⟨9, _⟩ => ⟨S1024x1024, .bf16⟩
  | .local _ .vmem, ⟨10, _⟩ => ⟨S256x1024, .bf16⟩
  | .local _ .vmem, ⟨11, _⟩ => ⟨S1x1024, .f32⟩
  | .local _ .vmem, ⟨12, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== Reference5Ideal.lean ====
abbrev S256x1024 : Shape := ⟨2, ![256, 1024]⟩
abbrev S256x256 : Shape := ⟨2, ![256, 256]⟩
abbrev S256x512 : Shape := ⟨2, ![256, 512]⟩
abbrev S256x3456 : Shape := ⟨2, ![256, 3456]⟩
abbrev S512x256 : Shape := ⟨2, ![512, 256]⟩
abbrev S1024x1024 : Shape := ⟨2, ![1024, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x256, .f32⟩
  | .hbm, ⟨2, _⟩ => ⟨S256x512, .f32⟩
  | .hbm, ⟨3, _⟩ => ⟨S256x3456, .f32⟩
  | .hbm, ⟨4, _⟩ => ⟨S256x256, .f32⟩
  | .hbm, ⟨5, _⟩ => ⟨S512x256, .f32⟩
  | .hbm, ⟨6, _⟩ => ⟨S1024x1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S256x512, .f32⟩
  | .hbm, ⟨11, _⟩ => ⟨S256x512, .f32⟩
  | .hbm, ⟨12, _⟩ => ⟨S256x512, .f32⟩
  | .hbm, ⟨13, _⟩ => ⟨S_, .f32⟩
  | .hbm, ⟨14, _⟩ => ⟨S256x512, .f32⟩
  | .hbm, ⟨15, _⟩ => ⟨S256x512, .f32⟩
  | .hbm, ⟨16, _⟩ => ⟨S_, .f32⟩
  | .hbm, ⟨17, _⟩ => ⟨S256x512, .f32⟩
  | .hbm, ⟨18, _⟩ => ⟨S256x512, .f32⟩
  | .hbm, ⟨19, _⟩ => ⟨S256x512, .f32⟩
  | .hbm, ⟨20, _⟩ => ⟨S256x512, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x256, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S_, .f32⟩
  | .hbm, ⟨43, _⟩ => ⟨S256x1, .f32⟩
  | .hbm, ⟨44, _⟩ => ⟨S256x1, .f32⟩
  | .hbm, ⟨45, _⟩ => ⟨S256x1, .f32⟩
  | .hbm, ⟨46, _⟩ => ⟨S256x1024, .f32⟩
  | .hbm, ⟨47, _⟩ => ⟨S256x1024, .f32⟩
  | .hbm, ⟨48, _⟩ => ⟨S1x1024, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_cst_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_1 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩

abbrev nD : Nat := 1
abbrev τ : Topo := Topo.v7x

variable {F : FTy → Type} [FloatOps F]
-- ==== Kernel6.lean ====
abbrev S256x3456 : Shape := ⟨2, ![256, 3456]⟩
abbrev S4 : Shape := ⟨1, ![4]⟩
abbrev S256 : Shape := ⟨1, ![256]⟩
abbrev S32x4x64x64 : Shape := ⟨4, ![32, 4, 64, 64]⟩
abbrev S32x4x64 : Shape := ⟨3, ![32, 4, 64]⟩
abbrev S32x4 : Shape := ⟨2, ![32, 4]⟩
abbrev S_ : Shape := ⟨0, ![]⟩
abbrev S120 : Shape := ⟨1, ![120]⟩
abbrev S128 : Shape := ⟨1, ![128]⟩
abbrev S1x128 : Shape := ⟨2, ![1, 128]⟩
abbrev S1x256 : Shape := ⟨2, ![1, 256]⟩
abbrev S32x4x64x63 : Shape := ⟨4, ![32, 4, 64, 63]⟩
abbrev S32x4x64x1 : Shape := ⟨4, ![32, 4, 64, 1]⟩
abbrev S32x4x64x128 : Shape := ⟨4, ![32, 4, 64, 128]⟩
abbrev S32x4x128x128 : Shape := ⟨4, ![32, 4, 128, 128]⟩
abbrev S32x4x1 : Shape := ⟨3, ![32, 4, 1]⟩
abbrev S32x4x128 : Shape := ⟨3, ![32, 4, 128]⟩
abbrev S32x8x128 : Shape := ⟨3, ![32, 8, 128]⟩
abbrev S256x256 : Shape := ⟨2, ![256, 256]⟩
abbrev S8x256 : Shape := ⟨2, ![8, 256]⟩
abbrev S8x128 : Shape := ⟨2, ![8, 128]⟩
abbrev S1x4x128x128 : Shape := ⟨4, ![1, 4, 128, 128]⟩
abbrev S1x8x128 : Shape := ⟨3, ![1, 8, 128]⟩
abbrev S4x128x128 : Shape := ⟨3, ![4, 128, 128]⟩
abbrev S8x8 : Shape := ⟨2, ![8, 8]⟩
abbrev S1x1 : Shape := ⟨2, ![1, 1]⟩
abbrev S8x1 : Shape := ⟨2, ![8, 1]⟩
abbrev S8 : Shape := ⟨1, ![8]⟩
abbrev S1x128x128 : Shape := ⟨3, ![1, 128, 128]⟩
abbrev S128x128 : Shape := ⟨2, ![128, 128]⟩
abbrev S1 : Shape := ⟨1, ![1]⟩

abbrev nBuf : Space → Nat
  | .hbm => 27
  | .vmem => 26
  | .smem => 0
  | _ => 0

abbrev bufTy : (tb : Table) → Fin (tcTables nBuf tb) → BufTy
  | .hbm, ⟨0, _⟩ => ⟨S256x3456, .f32⟩
  | .hbm, ⟨1, _⟩ => ⟨S4, .f32⟩
  | .hbm, ⟨2, _⟩ => ⟨S4, .f32⟩
  | .hbm, ⟨3, _⟩ => ⟨S256, .f32⟩
  | .hbm, ⟨4, _⟩ => ⟨S32x4x64x64, .f32⟩
  | .hbm, ⟨5, _⟩ => ⟨S32x4x64, .f32⟩
  | .hbm, ⟨6, _⟩ => ⟨S32x4, .f32⟩
  | .hbm, ⟨7, _⟩ => ⟨S_, .f32⟩
  | .hbm, ⟨8, _⟩ => ⟨S120, .f32⟩
  | .hbm, ⟨9, _⟩ => ⟨S128, .f32⟩
  | .hbm, ⟨10, _⟩ => ⟨S1x128, .f32⟩
  | .hbm, ⟨11, _⟩ => ⟨S1x256, .f32⟩
  | .hbm, ⟨12, _⟩ => ⟨S_, .f32⟩
  | .hbm, ⟨13, _⟩ => ⟨S32x4x64x63, .f32⟩
  | .hbm, ⟨14, _⟩ => ⟨S32x4x64x1, .f32⟩
  | .hbm, ⟨15, _⟩ => ⟨S32x4x64x128, .f32⟩
  | .hbm, ⟨16, _⟩ => ⟨S_, .f32⟩
  | .hbm, ⟨17, _⟩ => ⟨S32x4x64x128, .f32⟩
  | .hbm, ⟨18, _⟩ => ⟨S32x4x128x128, .f32⟩
  | .hbm, ⟨19, _⟩ => ⟨S32x4x1, .f32⟩
  | .hbm, ⟨20, _⟩ => ⟨S32x4x128, .f32⟩
  | .hbm, ⟨21, _⟩ => ⟨S_, .f32⟩
  | .hbm, ⟨22, _⟩ => ⟨S32x4x128, .f32⟩
  | .hbm, ⟨23, _⟩ => ⟨S32x8x128, .f32⟩
  | .hbm, ⟨24, _⟩ => ⟨S256x256, .f32⟩
  | .hbm, ⟨25, _⟩ => ⟨S32x4x128x128, .f32⟩
  | .hbm, ⟨26, _⟩ => ⟨S32x8x128, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x128, .f32⟩
  | .local _ .vmem, ⟨7, _⟩ => ⟨S8x128, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S1x128, .f32⟩
  | .local _ .vmem, ⟨13, _⟩ => ⟨S1x256, .f32⟩
  | .local _ .vmem, ⟨14, _⟩ => ⟨S1x4x128x128, .f32⟩
  | .local _ .vmem, ⟨15, _⟩ => ⟨S1x4x128x128, .f32⟩
  | .local _ .vmem, ⟨16, _⟩ => ⟨S1x8x128, .f32⟩
  | .local _ .vmem, ⟨17, _⟩ => ⟨S1x8x128, .f32⟩
  | .local _ .vmem, ⟨18, _⟩ => ⟨S8x256, .f32⟩
  | .local _ .vmem, ⟨19, _⟩ => ⟨S8x256, .f32⟩
  | .local _ .vmem, ⟨20, _⟩ => ⟨S1x4x128x128, .f32⟩
  | .local _ .vmem, ⟨21, _⟩ => ⟨S1x4x128x128, .f32⟩
  | .local _ .vmem, ⟨22, _⟩ => ⟨S1x8x128, .f32⟩
  | .local _ .vmem, ⟨23, _⟩ => ⟨S1x8x128, .f32⟩
  | .local _ .vmem, ⟨24, _⟩ => ⟨S4x128x128, .f32⟩
  | .local _ .vmem, ⟨25, _⟩ => ⟨S8x128, .f32⟩
  | _, _ => ⟨S256x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_180 : BitVec 32 := 0#32
  let v517 : BitVec 1 := Scalar.cmpi .eq arg1 c0_i32_180
  let v518 : BitVec 32 := Scalar.extui v517
  let c0_i32_181 : BitVec 32 := 0#32
  let v519 : BitVec 1 := Scalar.cmpi .ne v518 c0_i32_181
  v519

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c8_i32 : BitVec 32 := 8#32
  let c0_i32 : BitVec 32 := 0#32
  ![v1.toNat, c8_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c9_i32 : BitVec 32 := 9#32
  let c0_i32 : BitVec 32 := 0#32
  ![v1.toNat, c9_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c10_i32 : BitVec 32 := 10#32
  let c0_i32 : BitVec 32 := 0#32
  ![v1.toNat, c10_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c26_i32 : BitVec 32 := 26#32
  let c0_i32 : BitVec 32 := 0#32
  ![v1.toNat, c26_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c11_i32 : BitVec 32 := 11#32
  let c0_i32 : BitVec 32 := 0#32
  ![v1.toNat, c11_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c12_i32 : BitVec 32 := 12#32
  let c0_i32 : BitVec 32 := 0#32
  ![v1.toNat, c12_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference6Ideal.lean ====
abbrev S256x3456 : Shape := ⟨2, ![256, 3456]⟩
abbrev S4 : Shape := ⟨1, ![4]⟩
abbrev S256 : Shape := ⟨1, ![256]⟩
abbrev S32x4x64x64 : Shape := ⟨4, ![32, 4, 64, 64]⟩
abbrev S32x4x64 : Shape := ⟨3, ![32, 4, 64]⟩
abbrev S32x4 : Shape := ⟨2, ![32, 4]⟩
abbrev S256x256 : Shape := ⟨2, ![256, 256]⟩
abbrev S32x8x4x64 : Shape := ⟨4, ![32, 8, 4, 64]⟩
abbrev S32x4x8x64 : Shape := ⟨4, ![32, 4, 8, 64]⟩
abbrev S_ : Shape := ⟨0, ![]⟩
abbrev S256x4 : Shape := ⟨2, ![256, 4]⟩
abbrev S32x8x4 : Shape := ⟨3, ![32, 8, 4]⟩
abbrev S1x1x4 : Shape := ⟨3, ![1, 1, 4]⟩
abbrev S32x4x8 : Shape := ⟨3, ![32, 4, 8]⟩
abbrev S8x8 : Shape := ⟨2, ![8, 8]⟩
abbrev S32x4x1x8 : Shape := ⟨4, ![32, 4, 1, 8]⟩
abbrev S32x4x8x8 : Shape := ⟨4, ![32, 4, 8, 8]⟩
abbrev S32x4x1 : Shape := ⟨3, ![32, 4, 1]⟩
abbrev S32x4x1x1 : Shape := ⟨4, ![32, 4, 1, 1]⟩
abbrev S32x4x8x1 : Shape := ⟨4, ![32, 4, 8, 1]⟩
abbrev S32x4x64x1 : Shape := ⟨4, ![32, 4, 64, 1]⟩
abbrev S32x4x64x63 : Shape := ⟨4, ![32, 4, 64, 63]⟩
abbrev S32x4x64x128 : Shape := ⟨4, ![32, 4, 64, 128]⟩
abbrev S32x4x128x128 : Shape := ⟨4, ![32, 4, 128, 128]⟩
abbrev S32x4x128 : Shape := ⟨3, ![32, 4, 128]⟩
abbrev S32x8x128 : Shape := ⟨3, ![32, 8, 128]⟩

abbrev nBuf : Space → Nat
  | .hbm => 110
  | .vmem => 0
  | .smem => 0
  | _ => 0

abbrev bufTy : (tb : Table) → Fin (tcTables nBuf tb) → BufTy
  | .hbm, ⟨0, _⟩ => ⟨S256x3456, .f32⟩
  | .hbm, ⟨1, _⟩ => ⟨S4, .f32⟩
  | .hbm, ⟨2, _⟩ => ⟨S4, .f32⟩
  | .hbm, ⟨3, _⟩ => ⟨S256, .f32⟩
  | .hbm, ⟨4, _⟩ => ⟨S32x4x64x64, .f32⟩
  | .hbm, ⟨5, _⟩ => ⟨S32x4x64, .f32⟩
  | .hbm, ⟨6, _⟩ => ⟨S32x4, .f32⟩
  | .hbm, ⟨7, _⟩ => ⟨S256x256, .f32⟩
  | .hbm, ⟨8, _⟩ => ⟨S32x8x4x64, .f32⟩
  | .hbm, ⟨9, _⟩ => ⟨S32x4x8x64, .f32⟩
  | .hbm, ⟨10, _⟩ => ⟨S_, .f32⟩
  | .hbm, ⟨11, _⟩ => ⟨S32x4x8x64, .f32⟩
  | .hbm, ⟨12, _⟩ => ⟨S32x4x8x64, .f32⟩
  | .hbm, ⟨13, _⟩ => ⟨S256x256, .f32⟩
  | .hbm, ⟨14, _⟩ => ⟨S32x8x4x64, .f32⟩
  | .hbm, ⟨15, _⟩ => ⟨S32x4x8x64, .f32⟩
  | .hbm, ⟨16, _⟩ => ⟨S256x4, .f32⟩
  | .hbm, ⟨17, _⟩ => ⟨S32x8x4, .f32⟩
  | .hbm, ⟨18, _⟩ => ⟨S1x1x4, .f32⟩
  | .hbm, ⟨19, _⟩ => ⟨S32x8x4, .f32⟩
  | .hbm, ⟨20, _⟩ => ⟨S32x8x4, .f32⟩
  | .hbm, ⟨21, _⟩ => ⟨S32x4x8, .f32⟩
  | .hbm, ⟨22, _⟩ => ⟨S256x4, .f32⟩
  | .hbm, ⟨23, _⟩ => ⟨S32x8x4, .f32⟩
  | .hbm, ⟨24, _⟩ => ⟨S1x1x4, .f32⟩
  | .hbm, ⟨25, _⟩ => ⟨S32x8x4, .f32⟩
  | .hbm, ⟨26, _⟩ => ⟨S32x8x4, .f32⟩
  | .hbm, ⟨27, _⟩ => ⟨S32x8x4, .f32⟩
  | .hbm, ⟨28, _⟩ => ⟨S_, .f32⟩
  | .hbm, ⟨29, _⟩ => ⟨S32x8x4, .f32⟩
  | .hbm, ⟨30, _⟩ => ⟨S32x8x4, .f32⟩
  | .hbm, ⟨31, _⟩ => ⟨S32x8x4, .f32⟩
  | .hbm, ⟨32, _⟩ => ⟨S32x8x4, .f32⟩
  | .hbm, ⟨33, _⟩ => ⟨S32x8x4, .i1⟩
  | .hbm, ⟨34, _⟩ => ⟨S32x8x4, .f32⟩
  | .hbm, ⟨35, _⟩ => ⟨S32x8x4, .f32⟩
  | .hbm, ⟨36, _⟩ => ⟨S32x8x4, .f32⟩
  | .hbm, ⟨37, _⟩ => ⟨S32x8x4, .f32⟩
  | .hbm, ⟨38, _⟩ => ⟨S32x8x4, .f32⟩
  | .hbm, ⟨39, _⟩ => ⟨S32x8x4, .f32⟩
  | .hbm, ⟨40, _⟩ => ⟨S32x8x4, .f32⟩
  | .hbm, ⟨41, _⟩ => ⟨S32x8x4, .f32⟩
  | .hbm, ⟨42, _⟩ => ⟨S32x8x4, .f32⟩
  | .hbm, ⟨43, _⟩ => ⟨S32x4x8, .f32⟩
  | .hbm, ⟨44, _⟩ => ⟨S_, .i1⟩
  | .hbm, ⟨45, _⟩ => ⟨S8x8, .i1⟩
  | .hbm, ⟨46, _⟩ => ⟨S8x8, .i32⟩
  | .hbm, ⟨47, _⟩ => ⟨S_, .i32⟩
  | .hbm, ⟨48, _⟩ => ⟨S8x8, .i32⟩
  | .hbm, ⟨49, _⟩ => ⟨S8x8, .i32⟩
  | .hbm, ⟨50, _⟩ => ⟨S8x8, .i32⟩
  | .hbm, ⟨51, _⟩ => ⟨S8x8, .i1⟩
  | .hbm, ⟨52, _⟩ => ⟨S_, .i1⟩
  | .hbm, ⟨53, _⟩ => ⟨S8x8, .i1⟩
  | .hbm, ⟨54, _⟩ => ⟨S8x8, .i1⟩
  | .hbm, ⟨55, _⟩ => ⟨S32x4x1x8, .f32⟩
  | .hbm, ⟨56, _⟩ => ⟨S_, .f32⟩
  | .hbm, ⟨57, _⟩ => ⟨S_, .f32⟩
  | .hbm, ⟨58, _⟩ => ⟨S32x4x8x8, .i1⟩
  | .hbm, ⟨59, _⟩ => ⟨S32x4x8x8, .f32⟩
  | .hbm, ⟨60, _⟩ => ⟨S32x4x8x8, .f32⟩
  | .hbm, ⟨61, _⟩ => ⟨S32x4x8x8, .f32⟩
  | .hbm, ⟨62, _⟩ => ⟨S_, .f32⟩
  | .hbm, ⟨63, _⟩ => ⟨S32x4x8, .f32⟩
  | .hbm, ⟨64, _⟩ => ⟨S32x4x1, .f32⟩
  | .hbm, ⟨65, _⟩ => ⟨S32x4, .f32⟩
  | .hbm, ⟨66, _⟩ => ⟨S32x4x1, .f32⟩
  | .hbm, ⟨67, _⟩ => ⟨S32x4x8, .f32⟩
  | .hbm, ⟨68, _⟩ => ⟨S32x4x8, .f32⟩
  | .hbm, ⟨69, _⟩ => ⟨S32x4x8, .f32⟩
  | .hbm, ⟨70, _⟩ => ⟨S32x4, .f32⟩
  | .hbm, ⟨71, _⟩ => ⟨S_, .f32⟩
  | .hbm, ⟨72, _⟩ => ⟨S32x4, .f32⟩
  | .hbm, ⟨73, _⟩ => ⟨S32x4, .f32⟩
  | .hbm, ⟨74, _⟩ => ⟨S32x4, .f32⟩
  | .hbm, ⟨75, _⟩ => ⟨S32x4, .f32⟩
  | .hbm, ⟨76, _⟩ => ⟨S32x4, .f32⟩
  | .hbm, ⟨77, _⟩ => ⟨S32x4x1, .f32⟩
  | .hbm, ⟨78, _⟩ => ⟨S32x4x8, .f32⟩
  | .hbm, ⟨79, _⟩ => ⟨S32x4x8, .f32⟩
  | .hbm, ⟨80, _⟩ => ⟨S32x4x8, .f32⟩
  | .hbm, ⟨81, _⟩ => ⟨S32x4x1x1, .f32⟩
  | .hbm, ⟨82, _⟩ => ⟨S32x4x64x64, .f32⟩
  | .hbm, ⟨83, _⟩ => ⟨S32x4x64x64, .f32⟩
  | .hbm, ⟨84, _⟩ => ⟨S32x4x8x1, .f32⟩
  | .hbm, ⟨85, _⟩ => ⟨S32x4x8x64, .f32⟩
  | .hbm, ⟨86, _⟩ => ⟨S32x4x8x64, .f32⟩
  | .hbm, ⟨87, _⟩ => ⟨S32x4x64x64, .f32⟩
  | .hbm, ⟨88, _⟩ => ⟨S32x4x64x64, .f32⟩
  | .hbm, ⟨89, _⟩ => ⟨S32x4x1, .f32⟩
  | .hbm, ⟨90, _⟩ => ⟨S32x4x64, .f32⟩
  | .hbm, ⟨91, _⟩ => ⟨S32x4x64, .f32⟩
  | .hbm, ⟨92, _⟩ => ⟨S32x4x8x1, .f32⟩
  | .hbm, ⟨93, _⟩ => ⟨S32x4x8x64, .f32⟩
  | .hbm, ⟨94, _⟩ => ⟨S32x4x8x64, .f32⟩
  | .hbm, ⟨95, _⟩ => ⟨S_, .f32⟩
  | .hbm, ⟨96, _⟩ => ⟨S32x4x64, .f32⟩
  | .hbm, ⟨97, _⟩ => ⟨S32x4x64, .f32⟩
  | .hbm, ⟨98, _⟩ => ⟨S32x4x64x1, .f32⟩
  | .hbm, ⟨99, _⟩ => ⟨S_, .f32⟩
  | .hbm, ⟨100, _⟩ => ⟨S32x4x64x63, .f32⟩
  | .hbm, ⟨101, _⟩ => ⟨S32x4x64x128, .f32⟩
  | .hbm, ⟨102, _⟩ => ⟨S_, .f32⟩
  | .hbm, ⟨103, _⟩ => ⟨S32x4x64x128, .f32⟩
  | .hbm, ⟨104, _⟩ => ⟨S32x4x128x128, .f32⟩
  | .hbm, ⟨105, _⟩ => ⟨S32x4x1, .f32⟩
  | .hbm, ⟨106, _⟩ => ⟨S32x4x128, .f32⟩
  | .hbm, ⟨107, _⟩ => ⟨S_, .f32⟩
  | .hbm, ⟨108, _⟩ => ⟨S32x4x128, .f32⟩
  | .hbm, ⟨109, _⟩ => ⟨S32x8x128, .f32⟩
  | _, _ => ⟨S256x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1 : Ref sig .tc := ⟨.hbm, 41, rfl⟩
abbrev main_v19 : Ref sig .tc := ⟨.hbm, 42, rfl⟩
abbrev main_v20 : Ref sig .tc := ⟨.hbm, 43, rfl⟩
abbrev main_c : Ref sig .tc := ⟨.hbm, 44, rfl⟩
abbrev main_v21 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_0 : Ref sig .tc := ⟨.hbm, 52, rfl⟩
abbrev main_call1_v5 : Ref sig .tc := ⟨.hbm, 53, rfl⟩
abbrev main_v22 : Ref sig .tc := ⟨.hbm, 54, rfl⟩
abbrev main_v23 : Ref sig .tc := ⟨.hbm, 55, rfl⟩
abbrev main_cst_0 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_v24 : Ref sig .tc := ⟨.hbm, 61, rfl⟩
abbrev main_cst_1 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_2 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_3 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_4 : Ref sig .tc := ⟨.hbm, 99, rfl⟩
abbrev main_v59 : Ref sig .tc := ⟨.hbm, 100, rfl⟩
abbrev main_v60 : Ref sig .tc := ⟨.hbm, 101, rfl⟩
abbrev main_cst_5 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_6 : Ref sig .tc := ⟨.hbm, 107, rfl⟩
abbrev main_v65 : Ref sig .tc := ⟨.hbm, 108, rfl⟩
abbrev main_v66 : Ref sig .tc := ⟨.hbm, 109, rfl⟩

abbrev nD : Nat := 1
abbrev τ : Topo := Topo.v7x

variable {F : FTy → Type} [FloatOps F]
-- ==== Proof.InProjRef.lean ====
/-
  The input projection's mathematics, and that its reference (Reference2Ideal) computes it.

  The kernel normalises 512 tokens at a time by their root mean square, multiplies by the weight (its columns reordered, 120 zero
  columns appended), and normalises the query and key columns once more per head of 64. The heads' sums of squares are a
  product with the 0/1 table that holds one exactly where two columns belong to the same head. The key and value columns
  are also written transposed.
-/
module

public import proofs.«01_k».proof.Proof.Gen.Reference2Ideal.Read
public import Idealize.ShloMosaic.Lib.Pointwise
public import Idealize.ShloMosaic.Lib.IdealHost
public import Idealize.ShloMosaic.Lib.Pipeline.ValueKit

@[expose] public section

set_option maxRecDepth 16384

noncomputable section

namespace Cert.InProj

open Idealize.ShloMosaic Idealize.ShloMosaic.TcCoe Idealize.SL.Sem
open scoped BigOperators

/-! ## Joined columns, constants and head sums -/

/-- An array joined from pieces along its columns, read in the columns of one piece. -/
theorem joined {n W w : Nat} (xs : List ((s : Shape) × (s.Idx → EReal)))
    (h : Shape.Concatenates (xs.map (·.1)) ⟨2, ![n, W]⟩ 1) (k : Nat) (hk : k < xs.length)
    (x : (⟨2, ![n, w]⟩ : Shape).Idx → EReal) (hx : xs[k] = ⟨⟨2, ![n, w]⟩, x⟩) (pre : Nat)
    (hpre : (((xs.take k).map (·.1)).map fun s => if h : s.rank = 2 then s.size ((1 : Fin 2).cast h.symm) else 0).sum = pre)
    (r : Fin n) (i : Fin w) (j : Fin W) (hj : j.val = pre + i.val) :
    concatenate ⟨2, ![n, W]⟩ 1 xs h (ix2 r j) = x (ix2 r i) := by
  refine concatenate_apply_piece (t := ⟨2, ![n, W]⟩) 1 xs h (ix2 r j) k hk ⟨2, ![n, w]⟩ x hx rfl pre hpre (ix2 r i) ?_ hj.symm
  intro b hb
  match b with
  | ⟨0, _⟩ => rfl
  | ⟨1, _⟩ => exact absurd rfl hb

/-- The two words of the mean over 64: division by 64 is the product with 1/64. -/
theorem mean64 (x : EReal) : x * Ideal.ofBits .f32 0x3C800000#32 = Ideal.div x (Ideal.ofBits .f32 0x42800000#32) := by
  have a : Ideal.ofBits .f32 0x42800000#32 = ((64 : ℝ) : EReal) := by
    simp [Ideal.ofBits, Ideal.ieee, -EReal.coe_mul]; norm_num
  have b : Ideal.ofBits .f32 0x3C800000#32 = ((1 / 64 : ℝ) : EReal) := by
    simp [Ideal.ofBits, Ideal.ieee, -EReal.coe_mul]; norm_num
  rw [a, b, Ideal.div_coe (by norm_num)]

/-- A sum over `64 * n` columns weighted by "in the head of column `j`" is the sum over that head's 64 columns. -/
theorem head_sum {n N : Nat} (hN : N = n * 64) (f : Fin N → EReal) (j : Fin N) :
    ∑ x : Fin N, f x * (if x.val / 64 = j.val / 64 then (1 : EReal) else 0)
      = ∑ d : Fin 64, f ⟨j.val / 64 * 64 + d.val, by have := j.isLt; omega⟩ := by
  have e : ∀ x : Fin N, f x * (if x.val / 64 = j.val / 64 then (1 : EReal) else 0)
      = if x.val / 64 = j.val / 64 then f x else 0 := by
    intro x; split <;> simp
  simp only [e]
  rw [← Finset.sum_filter]
  symm
  refine Finset.sum_bij (fun d _ => (⟨j.val / 64 * 64 + d.val, by have := j.isLt; have := d.isLt; omega⟩ : Fin N)) ?_ ?_ ?_ ?_
  · intro d _
    rw [Finset.mem_filter]
    refine ⟨Finset.mem_univ _, ?_⟩
    show (j.val / 64 * 64 + d.val) / 64 = j.val / 64
    have := d.isLt
    omega
  · intro a _ b _ hab
    have := congrArg Fin.val hab
    exact Fin.ext (by simpa using this)
  · intro x hx
    have hx' := (Finset.mem_filter.mp hx).2
    refine ⟨⟨x.val % 64, Nat.mod_lt _ (by decide)⟩, Finset.mem_univ _, Fin.ext ?_⟩
    show j.val / 64 * 64 + x.val % 64 = x.val
    omega
  · intro d _; rfl

/-! ## The entries, for `M` tokens -/

section Entries

variable {M : ℕ} (x0 : (⟨2, ![M, 1024]⟩ : Shape).Idx → EReal) (x1 : (⟨1, ![1024]⟩ : Shape).Idx → EReal)
  (x2 : (⟨2, ![1024, 3336]⟩ : Shape).Idx → EReal) (x3 x4 : (⟨1, ![64]⟩ : Shape).Idx → EReal)

/-- The normalised token entry. -/
def xn (R : Fin M) (k : Fin 1024) : EReal :=
  x0 (ix2 R k) * Ideal.rsqrt (Ideal.div (∑ l : Fin 1024, x0 (ix2 R l) * x0 (ix2 R l)) (Ideal.ofBits .f32 0x44800000#32)
    + Ideal.ofBits .f32 0x358637BD#32) * x1 (ix1 k)

/-- The projection of token `R` on the weight's column `s`. -/
def proj (R : Fin M) (s : Fin 3336) : EReal := ∑ k : Fin 1024, xn x0 x1 R k * x2 (ix2 k s)

/-- Head normalisation: entry `a` of the run of columns starting at `o`, divided by its head's root mean square. -/
def headNorm (o : Nat) (N : Nat) (ho : o + N ≤ 3336) (hN : 64 ∣ N) (g : (⟨1, ![64]⟩ : Shape).Idx → EReal) (R : Fin M) (a : Fin N) : EReal :=
  proj x0 x1 x2 R ⟨o + a.val, by omega⟩
    * Ideal.rsqrt (Ideal.div (∑ d : Fin 64, proj x0 x1 x2 R ⟨o + (a.val / 64 * 64 + d.val), by omega⟩
          * proj x0 x1 x2 R ⟨o + (a.val / 64 * 64 + d.val), by omega⟩) (Ideal.ofBits .f32 0x42800000#32)
        + Ideal.ofBits .f32 0x358637BD#32)
    * g (ix1 ⟨a.val % 64, Nat.mod_lt _ (by decide)⟩)

/-- Query entry `a`. -/
def query (R : Fin M) (a : Fin 512) : EReal :=
  headNorm x0 x1 x2 512 512 (by decide) (by decide) x3 R a * Ideal.ofBits .f32 0x3E000000#32
/-- Key entry `a`. -/
def key (R : Fin M) (a : Fin 256) : EReal := headNorm x0 x1 x2 1024 256 (by decide) (by decide) x4 R a

end Entries

/-! ## The reference's arrays -/

section Ref
open Cert.Reference2Ideal.Read

variable (x0 : (⟨2, ![16384, 1024]⟩ : Shape).Idx → EReal) (x1 : (⟨1, ![1024]⟩ : Shape).Idx → EReal)
  (x2 : (⟨2, ![1024, 3336]⟩ : Shape).Idx → EReal) (x3 x4 : (⟨1, ![64]⟩ : Shape).Idx → EReal)

theorem ref_proj (R : Fin 16384) (s : Fin 3336) : val_main_v13 (F := Ideal) x0 x1 x2 (ix2 R s) = proj x0 x1 x2 R s := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem ref_query (R : Fin 16384) (j : Fin 512) : val_main_v57 (F := Ideal) x0 x1 x2 x3 (ix2 R j) = query x0 x1 x2 x3 R j := by
  pointwise [val_main_v57, val_main_v42, val_main_v41, val_main_v40, val_main_v39, val_main_v38, val_main_v37, val_main_v36, val_main_v35, val_main_v34, val_main_v33, val_main_v32, val_main_v31, val_main_v30, val_main_v29, val_main_v28, val_main_v27, val_main_v16, val_main_cst_2, val_main_cst_3, val_main_cst_4, val_main_cst_5]
  simp only [ref_proj]
  rfl

theorem ref_key (R : Fin 16384) (j : Fin 256) : val_main_v58 (F := Ideal) x0 x1 x2 x4 (ix2 R j) = key x0 x1 x2 x4 R j := by
  pointwise [val_main_v58, val_main_v56, val_main_v55, val_main_v54, val_main_v53, val_main_v52, val_main_v51, val_main_v50, val_main_v49, val_main_v48, val_main_v47, val_main_v46, val_main_v45, val_main_v44, val_main_v43, val_main_v17, val_main_cst_6, val_main_cst_7, val_main_cst_8]
  simp only [ref_proj]
  rfl

theorem ref_val (R : Fin 16384) (j : Fin 256) : val_main_v18 (F := Ideal) x0 x1 x2 (ix2 R j) = proj x0 x1 x2 R ⟨1280 + j.val, by omega⟩ := by
  pointwise [val_main_v18]
  rw [ref_proj]

/-! The reference's wide array, one run of columns at a time. -/
theorem ref_u0 (R : Fin 16384) (i : Fin 256) (j : Fin 3456) (hj : j.val = 0 + i.val) :
    val_main_v60 (F := Ideal) x0 x1 x2 x3 x4 (ix2 R j) = proj x0 x1 x2 R ⟨0 + i.val, by omega⟩ := by
  unfold val_main_v60
  refine (joined _ _ 0 (by simp) _ rfl 0 rfl R i j hj).trans ?_
  pointwise [val_main_v14]
  exact ref_proj _ _ _ _ _
theorem ref_u1 (R : Fin 16384) (i : Fin 256) (j : Fin 3456) (hj : j.val = 256 + i.val) :
    val_main_v60 (F := Ideal) x0 x1 x2 x3 x4 (ix2 R j) = proj x0 x1 x2 R ⟨256 + i.val, by omega⟩ := by
  unfold val_main_v60
  refine (joined _ _ 1 (by simp) _ rfl 256 rfl R i j hj).trans ?_
  pointwise [val_main_v15]
  exact ref_proj _ _ _ _ _
theorem ref_u2 (R : Fin 16384) (i : Fin 512) (j : Fin 3456) (hj : j.val = 512 + i.val) :
    val_main_v60 (F := Ideal) x0 x1 x2 x3 x4 (ix2 R j) = query x0 x1 x2 x3 R i := by
  unfold val_main_v60
  refine (joined _ _ 2 (by simp) _ rfl 512 rfl R i j hj).trans ?_
  exact ref_query _ _ _ _ R i
theorem ref_u3 (R : Fin 16384) (i : Fin 512) (j : Fin 3456) (hj : j.val = 1024 + i.val) :
    val_main_v60 (F := Ideal) x0 x1 x2 x3 x4 (ix2 R j) = proj x0 x1 x2 R ⟨1536 + i.val, by omega⟩ := by
  unfold val_main_v60
  refine (joined _ _ 3 (by simp) _ rfl 1024 rfl R i j hj).trans ?_
  pointwise [val_main_v19]
  exact ref_proj _ _ _ _ _
theorem ref_u4 (R : Fin 16384) (i : Fin 256) (j : Fin 3456) (hj : j.val = 1536 + i.val) :
    val_main_v60 (F := Ideal) x0 x1 x2 x3 x4 (ix2 R j) = key x0 x1 x2 x4 R i := by
  unfold val_main_v60
  refine (joined _ _ 4 (by simp) _ rfl 1536 rfl R i j hj).trans ?_
  exact ref_key _ _ _ _ R i
theorem ref_u5 (R : Fin 16384) (i : Fin 256) (j : Fin 3456) (hj : j.val = 1792 + i.val) :
    val_main_v60 (F := Ideal) x0 x1 x2 x3 x4 (ix2 R j) = proj x0 x1 x2 R ⟨1280 + i.val, by omega⟩ := by
  unfold val_main_v60
  refine (joined _ _ 5 (by simp) _ rfl 1792 rfl R i j hj).trans ?_
  pointwise [val_main_v18]
  exact ref_proj _ _ _ _ _
theorem ref_u6 (R : Fin 16384) (i : Fin 256) (j : Fin 3456) (hj : j.val = 2048 + i.val) :
    val_main_v60 (F := Ideal) x0 x1 x2 x3 x4 (ix2 R j) = proj x0 x1 x2 R ⟨2048 + i.val, by omega⟩ := by
  unfold val_main_v60
  refine (joined _ _ 6 (by simp) _ rfl 2048 rfl R i j hj).trans ?_
  pointwise [val_main_v20]
  exact ref_proj _ _ _ _ _
theorem ref_u7 (R : Fin 16384) (i : Fin 256) (j : Fin 3456) (hj : j.val = 2304 + i.val) :
    val_main_v60 (F := Ideal) x0 x1 x2 x3 x4 (ix2 R j) = proj x0 x1 x2 R ⟨2304 + i.val, by omega⟩ := by
  unfold val_main_v60
  refine (joined _ _ 7 (by simp) _ rfl 2304 rfl R i j hj).trans ?_
  pointwise [val_main_v21]
  exact ref_proj _ _ _ _ _
theorem ref_u8 (R : Fin 16384) (i : Fin 256) (j : Fin 3456) (hj : j.val = 2560 + i.val) :
    val_main_v60 (F := Ideal) x0 x1 x2 x3 x4 (ix2 R j) = proj x0 x1 x2 R ⟨2560 + i.val, by omega⟩ := by
  unfold val_main_v60
  refine (joined _ _ 8 (by simp) _ rfl 2560 rfl R i j hj).trans ?_
  pointwise [val_main_v22]
  exact ref_proj _ _ _ _ _
theorem ref_u9 (R : Fin 16384) (i : Fin 256) (j : Fin 3456) (hj : j.val = 2816 + i.val) :
    val_main_v60 (F := Ideal) x0 x1 x2 x3 x4 (ix2 R j) = proj x0 x1 x2 R ⟨2824 + i.val, by omega⟩ := by
  unfold val_main_v60
  refine (joined _ _ 9 (by simp) _ rfl 2816 rfl R i j hj).trans ?_
  pointwise [val_main_v25]
  exact ref_proj _ _ _ _ _
theorem ref_u10 (R : Fin 16384) (i : Fin 256) (j : Fin 3456) (hj : j.val = 3072 + i.val) :
    val_main_v60 (F := Ideal) x0 x1 x2 x3 x4 (ix2 R j) = proj x0 x1 x2 R ⟨3080 + i.val, by omega⟩ := by
  unfold val_main_v60
  refine (joined _ _ 10 (by simp) _ rfl 3072 rfl R i j hj).trans ?_
  pointwise [val_main_v26]
  exact ref_proj _ _ _ _ _
theorem ref_u11 (R : Fin 16384) (i : Fin 4) (j : Fin 3456) (hj : j.val = 3328 + i.val) :
    val_main_v60 (F := Ideal) x0 x1 x2 x3 x4 (ix2 R j) = proj x0 x1 x2 R ⟨2816 + i.val, by omega⟩ := by
  unfold val_main_v60
  refine (joined _ _ 11 (by simp) _ rfl 3328 rfl R i j hj).trans ?_
  pointwise [val_main_v23]
  exact ref_proj _ _ _ _ _
theorem ref_u12 (R : Fin 16384) (i : Fin 4) (j : Fin 3456) (hj : j.val = 3332 + i.val) :
    val_main_v60 (F := Ideal) x0 x1 x2 x3 x4 (ix2 R j) = proj x0 x1 x2 R ⟨2820 + i.val, by omega⟩ := by
  unfold val_main_v60
  refine (joined _ _ 12 (by simp) _ rfl 3332 rfl R i j hj).trans ?_
  pointwise [val_main_v24]
  exact ref_proj _ _ _ _ _
set_option maxHeartbeats 2000000 in
theorem ref_u13 (R : Fin 16384) (i : Fin 120) (j : Fin 3456) (hj : j.val = 3336 + i.val) :
    val_main_v60 (F := Ideal) x0 x1 x2 x3 x4 (ix2 R j) = 0 := by
  unfold val_main_v60
  refine (joined _ _ 13 (by simp) _ rfl 3336 rfl R i j hj).trans ?_
  pointwise [val_main_v59, val_main_cst_9]

end Ref

end Cert.InProj
-- ==== Proof.RgMath.lean ====
/-
  The gated recurrence's mathematics over the extended reals: the ranges of its gates and of its decay, the two forms
  of the input's scale, and the weight laid out in blocks.
-/
module

public import proofs.«01_k».proof.Proof.InProjRef

@[expose] public section

set_option maxRecDepth 16384

noncomputable section

namespace Cert.Rg

open Idealize.ShloMosaic Idealize.ShloMosaic.TcCoe Idealize.SL.Sem
open scoped BigOperators

/-- The logistic function. -/
def sigm (x : EReal) : EReal := Ideal.div 1 (1 + Ideal.exp (-x))

/-- The smooth positive part. -/
def softp (x : EReal) : EReal := max x 0 + Ideal.log1p (Ideal.exp (-(max x (-x))))

/-- The decay's logarithm, of the gate's input and the channel's parameter. -/
def decayLog (r l : EReal) : EReal := (((-8 : ℝ) : EReal) * sigm r) * softp (-l)

theorem exp_nonneg (x : EReal) : 0 ≤ Ideal.exp x := by
  induction x with
  | bot => exact le_refl (0 : EReal)
  | top => exact (le_top : (0 : EReal) ≤ ⊤)
  | coe r => exact EReal.coe_nonneg.mpr (Real.exp_pos r).le

theorem sigm_nonneg (x : EReal) : 0 ≤ sigm x := by
  have h := exp_nonneg (-x)
  have h1 : (0 : EReal) < 1 + Ideal.exp (-x) := lt_of_lt_of_le zero_lt_one (le_add_of_nonneg_right h)
  unfold sigm Ideal.div
  rw [if_neg h1.ne', one_mul]
  exact EReal.inv_nonneg_of_nonneg h1.le

theorem log_nonneg {x : EReal} (h : 1 ≤ x) : 0 ≤ Ideal.log x := by
  induction x with
  | bot => exact absurd h (by rw [le_bot_iff]; exact EReal.coe_ne_bot 1)
  | top => exact (le_top : (0 : EReal) ≤ ⊤)
  | coe r =>
    have hr : (1 : ℝ) ≤ r := by exact_mod_cast h
    show (0 : EReal) ≤ if r ≤ 0 then ⊥ else (Real.log r : EReal)
    rw [if_neg (by linarith)]
    exact EReal.coe_nonneg.mpr (Real.log_nonneg hr)

theorem softp_nonneg (x : EReal) : 0 ≤ softp x :=
  add_nonneg (le_max_right _ _) (log_nonneg (le_add_of_nonneg_right (exp_nonneg _)))

theorem decayLog_nonpos (r l : EReal) : decayLog r l ≤ 0 := by
  unfold decayLog
  have e : ((-8 : ℝ) : EReal) = -((8 : ℝ) : EReal) := by rw [← EReal.coe_neg]
  rw [e, EReal.neg_mul, EReal.neg_mul, EReal.neg_le, neg_zero]
  exact mul_nonneg (mul_nonneg (EReal.coe_nonneg.mpr (by norm_num)) (sigm_nonneg r)) (softp_nonneg _)

theorem exp_ne_top {x : EReal} (h : x ≤ 0) : Ideal.exp x ≠ ⊤ := by
  induction x with
  | bot => exact (EReal.coe_ne_top 0 : (0 : EReal) ≠ ⊤)
  | top => simp at h
  | coe r => exact EReal.coe_ne_top _

/-- The two forms of the squared scale: from the hyperbolic tangent, and from the exponential less one. -/
theorem scale_eq {x : EReal} (h : x ≤ 0) :
    (0 - Ideal.tanh x) * (Ideal.exp x * Ideal.exp x + 1) = -(Ideal.exp (((2 : ℝ) : EReal) * x) - 1) := by
  induction x with
  | bot =>
    have e : ((2 : ℝ) : EReal) * ⊥ = ⊥ := EReal.coe_mul_bot_of_pos (by norm_num)
    rw [e]
    show (0 - (-1)) * ((0 : EReal) * 0 + 1) = -((0 : EReal) - 1)
    simp
  | top => simp at h
  | coe r =>
    rw [← EReal.coe_mul]
    show (0 - (Real.tanh r : EReal)) * ((Real.exp r : EReal) * (Real.exp r : EReal) + 1) = -((Real.exp (2 * r) : EReal) - 1)
    have key : (0 - Real.tanh r) * (Real.exp r * Real.exp r + 1) = -(Real.exp (2 * r) - 1) := by
      rw [Real.tanh_eq_sinh_div_cosh, Real.sinh_eq, Real.cosh_eq, Real.exp_neg, two_mul, Real.exp_add]
      have hp := Real.exp_pos r
      have hq : Real.exp r * Real.exp r + 1 ≠ 0 := by positivity
      field_simp
      ring
    exact_mod_cast key

/-- A factor in the decay's range distributes over every sum. -/
theorem decay_distrib {x : EReal} (h : x ≤ 0) (y z : EReal) :
    Ideal.exp x * (y + z) = Ideal.exp x * y + Ideal.exp x * z :=
  EReal.left_distrib_of_nonneg_of_ne_top (exp_nonneg x) (exp_ne_top h) y z

/-- The state after step `r`: `h ↦ a h + b`, from the state before the first. -/
def state (a b : Fin 8 → EReal) (h : EReal) : Nat → EReal
  | 0 => a 0 * h + b 0
  | n + 1 => if hn : n + 1 < 8 then a ⟨n + 1, hn⟩ * state a b h n + b ⟨n + 1, hn⟩ else 0

/-- A row of channel `j` times the block-diagonal weight is that row's block times the block's weight. -/
theorem block_sum (f : Fin 256 → EReal) (w : (⟨3, ![4, 64, 64]⟩ : Shape).Idx → EReal) (j : Fin 256) :
    ∑ k : Fin 256, f k * (w (ix3 ⟨k.val / 64, by omega⟩ ⟨k.val % 64, Nat.mod_lt _ (by decide)⟩ ⟨j.val % 64, Nat.mod_lt _ (by decide)⟩)
        * (if k.val / 64 = j.val / 64 then (1 : EReal) else 0))
      = ∑ d : Fin 64, f ⟨j.val / 64 * 64 + d.val, by omega⟩
          * w (ix3 ⟨j.val / 64, by omega⟩ d ⟨j.val % 64, Nat.mod_lt _ (by decide)⟩) := by
  simp only [← mul_assoc]
  refine (Cert.InProj.head_sum (n := 4) rfl (fun k : Fin 256 => f k * w (ix3 ⟨k.val / 64, by omega⟩
    ⟨k.val % 64, Nat.mod_lt _ (by decide)⟩ ⟨j.val % 64, Nat.mod_lt _ (by decide)⟩)) j).trans ?_
  refine Finset.sum_congr rfl fun d _ => ?_
  have e1 : (⟨(j.val / 64 * 64 + d.val) / 64, by omega⟩ : Fin 4) = ⟨j.val / 64, by omega⟩ := Fin.ext (by show (j.val / 64 * 64 + d.val) / 64 = j.val / 64; omega)
  have e2 : (⟨(j.val / 64 * 64 + d.val) % 64, Nat.mod_lt _ (by decide)⟩ : Fin 64) = d := Fin.ext (by show (j.val / 64 * 64 + d.val) % 64 = d.val; omega)
  show f _ * w (ix3 ⟨(j.val / 64 * 64 + d.val) / 64, _⟩ ⟨(j.val / 64 * 64 + d.val) % 64, _⟩ _) = _
  rw [e1, e2]

end Cert.Rg
-- ==== Proof.RgRef.lean ====
/-
  The gated recurrence's reference (ReferenceIdeal), entry by entry: the convolution over four steps, the two gates, the
  decay, and the state carried over the eight steps of each sequence.
-/
module

public import proofs.«01_k».proof.Proof.Gen.ReferenceIdeal.Read
public import proofs.«01_k».proof.Proof.RgMath
public import Idealize.ShloMosaic.Lib.Pointwise
public import Idealize.ShloMosaic.Lib.IdealHost
public import Idealize.ShloMosaic.Lib.Pipeline.ValueKit

@[expose] public section

set_option maxRecDepth 16384

noncomputable section

namespace Cert.Rg

open Idealize.ShloMosaic Idealize.ShloMosaic.TcCoe Idealize.SL.Sem
open scoped BigOperators

theorem word_one : Ideal.ofBits .f32 0x3F800000#32 = 1 := Ideal.ofBits_one_f32
theorem word_two : Ideal.ofBits .f32 0x40000000#32 = ((2 : ℝ) : EReal) := by
  simp [Ideal.ofBits, Ideal.ieee, -EReal.coe_mul]; norm_num
theorem word_neg8 : Ideal.ofBits .f32 0xC1000000#32 = ((-8 : ℝ) : EReal) := by
  simp [Ideal.ofBits, Ideal.ieee, -EReal.coe_mul]; norm_num

/-- Two arrays joined along their middle axis, read in one of them. -/
theorem joined3 {p n W w : Nat} (xs : List ((s : Shape) × (s.Idx → EReal)))
    (h : Shape.Concatenates (xs.map (·.1)) ⟨3, ![p, W, n]⟩ 1) (k : Nat) (hk : k < xs.length)
    (x : (⟨3, ![p, w, n]⟩ : Shape).Idx → EReal) (hx : xs[k] = ⟨⟨3, ![p, w, n]⟩, x⟩) (pre : Nat)
    (hpre : (((xs.take k).map (·.1)).map fun s => if h : s.rank = 3 then s.size ((1 : Fin 3).cast h.symm) else 0).sum = pre)
    (s : Fin p) (r : Fin n) (i : Fin w) (j : Fin W) (hj : j.val = pre + i.val) :
    concatenate ⟨3, ![p, W, n]⟩ 1 xs h (ix3 s j r) = x (ix3 s i r) := by
  refine concatenate_apply_piece (t := ⟨3, ![p, W, n]⟩) 1 xs h (ix3 s j r) k hk ⟨3, ![p, w, n]⟩ x hx rfl pre hpre (ix3 s i r) ?_ hj.symm
  intro b hb
  match b with
  | ⟨0, _⟩ => rfl
  | ⟨1, _⟩ => exact absurd rfl hb
  | ⟨2, _⟩ => rfl

section Ref
open Cert.ReferenceIdeal.Read Cert.ReferenceIdeal Cert.ReferenceIdeal.Gen

variable (x0 : (⟨2, ![256, 3456]⟩ : Shape).Idx → EReal) (x1 : (⟨3, ![32, 3, 256]⟩ : Shape).Idx → EReal)
  (x2 : (⟨2, ![32, 256]⟩ : Shape).Idx → EReal) (x3 : (⟨2, ![4, 256]⟩ : Shape).Idx → EReal) (x4 : (⟨1, ![256]⟩ : Shape).Idx → EReal)
  (x5 : (⟨3, ![4, 64, 64]⟩ : Shape).Idx → EReal) (x6 : (⟨1, ![256]⟩ : Shape).Idx → EReal)
  (x7 : (⟨3, ![4, 64, 64]⟩ : Shape).Idx → EReal) (x8 x9 : (⟨1, ![256]⟩ : Shape).Idx → EReal)

/-- Row `q` of sequence `s`'s eleven rows: three carried ones, then the eight new ones. -/
def tap (s : Fin 32) (q : Fin 11) (j : Fin 256) : EReal :=
  if h : q.val < 3 then x1 (ix3 s ⟨q.val, h⟩ j)
  else x0 (ix2 (⟨s.val * 8 + (q.val - 3), by omega⟩ : Fin 256) (⟨j.val, by omega⟩ : Fin 3456))

/-- The convolution's output at step `r`. -/
def conv (s : Fin 32) (r : Fin 8) (j : Fin 256) : EReal :=
  x4 (ix1 j) + tap x0 x1 s ⟨r.val, by omega⟩ j * x3 (ix2 0 j) + tap x0 x1 s ⟨1 + r.val, by omega⟩ j * x3 (ix2 1 j)
    + tap x0 x1 s ⟨2 + r.val, by omega⟩ j * x3 (ix2 2 j) + tap x0 x1 s ⟨3 + r.val, by omega⟩ j * x3 (ix2 3 j)

/-- A gate's input: the channel's block of 64 times its weight, plus the bias. -/
def gateIn (w : (⟨3, ![4, 64, 64]⟩ : Shape).Idx → EReal) (b : (⟨1, ![256]⟩ : Shape).Idx → EReal) (s : Fin 32) (r : Fin 8) (j : Fin 256) : EReal :=
  (∑ d : Fin 64, conv x0 x1 x3 x4 s r ⟨j.val / 64 * 64 + d.val, by omega⟩
      * w (ix3 ⟨j.val / 64, by omega⟩ d ⟨j.val % 64, Nat.mod_lt _ (by decide)⟩)) + b (ix1 j)

/-- The decay's logarithm at step `r`. -/
def dlog (s : Fin 32) (r : Fin 8) (j : Fin 256) : EReal := decayLog (gateIn x0 x1 x3 x4 x5 x6 s r j) (x9 (ix1 j))

/-- The recurrence's input at step `r`. -/
def inp (s : Fin 32) (r : Fin 8) (j : Fin 256) : EReal :=
  Ideal.sqrt (-(Ideal.exp (((2 : ℝ) : EReal) * dlog x0 x1 x3 x4 x5 x6 x9 s r j) - 1))
    * (sigm (gateIn x0 x1 x3 x4 x7 x8 s r j) * conv x0 x1 x3 x4 s r j)

/-- The state after step `n`. -/
def st (s : Fin 32) (j : Fin 256) (n : Nat) : EReal :=
  state (fun r => Ideal.exp (dlog x0 x1 x3 x4 x5 x6 x9 s r j)) (fun r => inp x0 x1 x3 x4 x5 x6 x7 x8 x9 s r j) (x2 (ix2 s j)) n

theorem ref_tap (s : Fin 32) (q : Fin 11) (j : Fin 256) : val_main_v4 (F := Ideal) x0 x1 (ix3 s q j) = tap x0 x1 s q j := by
  unfold val_main_v4 tap
  split
  · rename_i h
    exact joined3 _ _ 0 (by simp) x1 rfl 0 rfl s j ⟨q.val, h⟩ q (by simp)
  · rename_i h
    refine (joined3 _ _ 1 (by simp) (val_main_v1 (F := Ideal) x0) rfl 3 rfl s j ⟨q.val - 3, by omega⟩ q (by show q.val = 3 + (q.val - 3); omega)).trans ?_
    pointwise [val_main_v1, val_main_v0]
    blk_ext []

theorem ref_conv (s : Fin 32) (r : Fin 8) (j : Fin 256) :
    val_main_v34 (F := Ideal) x0 x1 x3 x4 (ix3 s r j) = conv x0 x1 x3 x4 s r j := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5]
  simp only [ref_tap]
  rfl

theorem ref_buf (s : Fin 32) (r : Fin 3) (j : Fin 256) :
    val_main_v35 (F := Ideal) x0 x1 (ix3 s r j) = x0 (ix2 (⟨s.val * 8 + (r.val + 5), by omega⟩ : Fin 256) (⟨j.val, by omega⟩ : Fin 3456)) := by
  pointwise [val_main_v35]
  rw [ref_tap]
  unfold tap
  rw [dif_neg (by show ¬ (8 + r.val < 3); omega)]
  blk_ext []

theorem ref_gate_r (s : Fin 32) (r : Fin 8) (j : Fin 256) :
    val_main_v42 (F := Ideal) x0 x1 x3 x4 x5 x6 (ix3 s r j) = gateIn x0 x1 x3 x4 x5 x6 s r j := by
  pointwise [val_main_v42, val_main_v41, val_main_v40, val_main_v39, val_main_v38, val_main_v37, val_main_v36]
  simp only [ref_conv]
  unfold gateIn
  refine congrArg₂ _ (Finset.sum_congr rfl fun d _ => ?_) rfl
  rw [mul_comm]

theorem ref_gate_i (s : Fin 32) (r : Fin 8) (j : Fin 256) :
    val_main_v54 (F := Ideal) x0 x1 x3 x4 x7 x8 (ix3 s r j) = gateIn x0 x1 x3 x4 x7 x8 s r j := by
  pointwise [val_main_v54, val_main_v53, val_main_v52, val_main_v51, val_main_v50, val_main_v49, val_main_v36]
  simp only [ref_conv]
  unfold gateIn
  refine congrArg₂ _ (Finset.sum_congr rfl fun d _ => ?_) rfl
  rw [mul_comm]

theorem ref_softp (j : Fin 256) : val_main_v64 (F := Ideal) x9 (ix1 j) = softp (-(x9 (ix1 j))) := by
  pointwise [val_main_v64, val_main_v63, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_cst]
  rw [if_neg (by simp)]
  rfl

theorem ref_dlog (s : Fin 32) (r : Fin 8) (j : Fin 256) :
    val_main_v67 (F := Ideal) x0 x1 x3 x4 x5 x6 x9 (ix3 s r j) = dlog x0 x1 x3 x4 x5 x6 x9 s r j := by
  pointwise [val_main_v67, val_main_v66, val_main_v65, val_main_v62, val_main_v61, val_main_cst_3, val_main_v48, val_main_v47, val_main_v46, val_main_v45, val_main_v44, val_main_v43, val_main_cst, val_main_cst_0]
  simp only [ref_gate_r, ref_softp]
  rw [word_neg8]
  rfl

theorem ref_decay (s : Fin 32) (r : Fin 8) (j : Fin 256) :
    val_main_v68 (F := Ideal) x0 x1 x3 x4 x5 x6 x9 (ix3 s r j) = Ideal.exp (dlog x0 x1 x3 x4 x5 x6 x9 s r j) := by
  pointwise [val_main_v68]
  rw [ref_dlog]

theorem ref_inp (s : Fin 32) (r : Fin 8) (j : Fin 256) :
    val_main_v75 (F := Ideal) x0 x1 x3 x4 x5 x6 x7 x8 x9 (ix3 s r j) = inp x0 x1 x3 x4 x5 x6 x7 x8 x9 s r j := by
  pointwise [val_main_v75, val_main_v74, val_main_v73, val_main_v72, val_main_v71, val_main_v70, val_main_v69, val_main_cst_4, val_main_v60, val_main_v59, val_main_v58, val_main_v57, val_main_v56, val_main_v55, val_main_cst_1, val_main_cst_2]
  simp only [ref_dlog, ref_gate_i, ref_conv]
  rw [word_two]
  rfl

theorem ref_st0 (s : Fin 32) (j : Fin 256) :
    val_main_v81 (F := Ideal) x0 x1 x2 x3 x4 x5 x6 x7 x8 x9 (ix2 s j) = st x0 x1 x2 x3 x4 x5 x6 x7 x8 x9 s j 0 := by
  pointwise [val_main_v81, val_main_v80, val_main_v79, val_main_v78, val_main_v77, val_main_v76]
  rw [ref_decay, ref_inp]
  rfl
theorem ref_st1 (s : Fin 32) (j : Fin 256) :
    val_main_v87 (F := Ideal) x0 x1 x2 x3 x4 x5 x6 x7 x8 x9 (ix2 s j) = st x0 x1 x2 x3 x4 x5 x6 x7 x8 x9 s j 1 := by
  pointwise [val_main_v87, val_main_v86, val_main_v85, val_main_v84, val_main_v83, val_main_v82]
  rw [ref_decay, ref_inp, ref_st0]
  rfl
theorem ref_st2 (s : Fin 32) (j : Fin 256) :
    val_main_v93 (F := Ideal) x0 x1 x2 x3 x4 x5 x6 x7 x8 x9 (ix2 s j) = st x0 x1 x2 x3 x4 x5 x6 x7 x8 x9 s j 2 := by
  pointwise [val_main_v93, val_main_v92, val_main_v91, val_main_v90, val_main_v89, val_main_v88]
  rw [ref_decay, ref_inp, ref_st1]
  rfl
theorem ref_st3 (s : Fin 32) (j : Fin 256) :
    val_main_v99 (F := Ideal) x0 x1 x2 x3 x4 x5 x6 x7 x8 x9 (ix2 s j) = st x0 x1 x2 x3 x4 x5 x6 x7 x8 x9 s j 3 := by
  pointwise [val_main_v99, val_main_v98, val_main_v97, val_main_v96, val_main_v95, val_main_v94]
  rw [ref_decay, ref_inp, ref_st2]
  rfl
theorem ref_st4 (s : Fin 32) (j : Fin 256) :
    val_main_v105 (F := Ideal) x0 x1 x2 x3 x4 x5 x6 x7 x8 x9 (ix2 s j) = st x0 x1 x2 x3 x4 x5 x6 x7 x8 x9 s j 4 := by
  pointwise [val_main_v105, val_main_v104, val_main_v103, val_main_v102, val_main_v101, val_main_v100]
  rw [ref_decay, ref_inp, ref_st3]
  rfl
theorem ref_st5 (s : Fin 32) (j : Fin 256) :
    val_main_v111 (F := Ideal) x0 x1 x2 x3 x4 x5 x6 x7 x8 x9 (ix2 s j) = st x0 x1 x2 x3 x4 x5 x6 x7 x8 x9 s j 5 := by
  pointwise [val_main_v111, val_main_v110, val_main_v109, val_main_v108, val_main_v107, val_main_v106]
  rw [ref_decay, ref_inp, ref_st4]
  rfl
theorem ref_st6 (s : Fin 32) (j : Fin 256) :
    val_main_v117 (F := Ideal) x0 x1 x2 x3 x4 x5 x6 x7 x8 x9 (ix2 s j) = st x0 x1 x2 x3 x4 x5 x6 x7 x8 x9 s j 6 := by
  pointwise [val_main_v117, val_main_v116, val_main_v115, val_main_v114, val_main_v113, val_main_v112]
  rw [ref_decay, ref_inp, ref_st5]
  rfl
theorem ref_st7 (s : Fin 32) (j : Fin 256) :
    val_main_v123 (F := Ideal) x0 x1 x2 x3 x4 x5 x6 x7 x8 x9 (ix2 s j) = st x0 x1 x2 x3 x4 x5 x6 x7 x8 x9 s j 7 := by
  pointwise [val_main_v123, val_main_v122, val_main_v121, val_main_v120, val_main_v119, val_main_v118]
  rw [ref_decay, ref_inp, ref_st6]
  rfl

theorem ref_states (s : Fin 32) (r : Fin 8) (j : Fin 256) :
    val_main_v132 (F := Ideal) x0 x1 x2 x3 x4 x5 x6 x7 x8 x9 (ix3 s r j) = st x0 x1 x2 x3 x4 x5 x6 x7 x8 x9 s j r.val := by
  unfold val_main_v132
  match r with
  | ⟨0, _⟩ =>
    refine (joined3 _ _ 0 (by simp) (val_main_v124 (F := Ideal) x0 x1 x2 x3 x4 x5 x6 x7 x8 x9) rfl 0 rfl s j (0 : Fin 1) ⟨0, _⟩ rfl).trans ?_
    pointwise [val_main_v124]
    exact ref_st0 x0 x1 x2 x3 x4 x5 x6 x7 x8 x9 s j
  | ⟨1, _⟩ =>
    refine (joined3 _ _ 1 (by simp) (val_main_v125 (F := Ideal) x0 x1 x2 x3 x4 x5 x6 x7 x8 x9) rfl 1 rfl s j (0 : Fin 1) ⟨1, _⟩ rfl).trans ?_
    pointwise [val_main_v125]
    exact ref_st1 x0 x1 x2 x3 x4 x5 x6 x7 x8 x9 s j
  | ⟨2, _⟩ =>
    refine (joined3 _ _ 2 (by simp) (val_main_v126 (F := Ideal) x0 x1 x2 x3 x4 x5 x6 x7 x8 x9) rfl 2 rfl s j (0 : Fin 1) ⟨2, _⟩ rfl).trans ?_
    pointwise [val_main_v126]
    exact ref_st2 x0 x1 x2 x3 x4 x5 x6 x7 x8 x9 s j
  | ⟨3, _⟩ =>
    refine (joined3 _ _ 3 (by simp) (val_main_v127 (F := Ideal) x0 x1 x2 x3 x4 x5 x6 x7 x8 x9) rfl 3 rfl s j (0 : Fin 1) ⟨3, _⟩ rfl).trans ?_
    pointwise [val_main_v127]
    exact ref_st3 x0 x1 x2 x3 x4 x5 x6 x7 x8 x9 s j
  | ⟨4, _⟩ =>
    refine (joined3 _ _ 4 (by simp) (val_main_v128 (F := Ideal) x0 x1 x2 x3 x4 x5 x6 x7 x8 x9) rfl 4 rfl s j (0 : Fin 1) ⟨4, _⟩ rfl).trans ?_
    pointwise [val_main_v128]
    exact ref_st4 x0 x1 x2 x3 x4 x5 x6 x7 x8 x9 s j
  | ⟨5, _⟩ =>
    refine (joined3 _ _ 5 (by simp) (val_main_v129 (F := Ideal) x0 x1 x2 x3 x4 x5 x6 x7 x8 x9) rfl 5 rfl s j (0 : Fin 1) ⟨5, _⟩ rfl).trans ?_
    pointwise [val_main_v129]
    exact ref_st5 x0 x1 x2 x3 x4 x5 x6 x7 x8 x9 s j
  | ⟨6, _⟩ =>
    refine (joined3 _ _ 6 (by simp) (val_main_v130 (F := Ideal) x0 x1 x2 x3 x4 x5 x6 x7 x8 x9) rfl 6 rfl s j (0 : Fin 1) ⟨6, _⟩ rfl).trans ?_
    pointwise [val_main_v130]
    exact ref_st6 x0 x1 x2 x3 x4 x5 x6 x7 x8 x9 s j
  | ⟨7, _⟩ =>
    refine (joined3 _ _ 7 (by simp) (val_main_v131 (F := Ideal) x0 x1 x2 x3 x4 x5 x6 x7 x8 x9) rfl 7 rfl s j (0 : Fin 1) ⟨7, _⟩ rfl).trans ?_
    pointwise [val_main_v131]
    exact ref_st7 x0 x1 x2 x3 x4 x5 x6 x7 x8 x9 s j

/-- The gated output of token `R`. -/
def gated (R : Fin 256) (j : Fin 256) : EReal :=
  st x0 x1 x2 x3 x4 x5 x6 x7 x8 x9 ⟨R.val / 8, by omega⟩ j (R.val % 8)
    * (x0 (ix2 R (⟨256 + j.val, by omega⟩ : Fin 3456)) * sigm (x0 (ix2 R (⟨256 + j.val, by omega⟩ : Fin 3456))))

theorem ref_out (R : Fin 256) (j : Fin 256) : val_main_v135 (F := Ideal) x0 x1 x2 x3 x4 x5 x6 x7 x8 x9 (ix2 R j) = gated x0 x1 x2 x3 x4 x5 x6 x7 x8 x9 R j := by
  pointwise [val_main_v135, val_main_v134, val_main_v133, val_main_call1_v5, val_main_call1_v4, val_main_call1_v3, val_main_call1_v2, val_main_call1_v1, val_main_call1_v0, val_main_call1_cst, val_main_call1_cst_0, val_main_v3, val_main_v2]
  simp only [ref_states]
  rfl

theorem ref_last (s : Fin 32) (j : Fin 256) : val_main_v136 (F := Ideal) x0 x1 x2 x3 x4 x5 x6 x7 x8 x9 (ix3 s 0 j) = st x0 x1 x2 x3 x4 x5 x6 x7 x8 x9 s j 7 := by
  pointwise [val_main_v136]
  exact ref_st7 x0 x1 x2 x3 x4 x5 x6 x7 x8 x9 s j

end Ref

end Cert.Rg
-- ==== Proof.RgPay.lean ====
/-
  The gated recurrence's kernel, value by value, over any contents of its blocks.
-/
module

public import proofs.«01_k».proof.Proof.Gen.KernelIdeal.Value
public import proofs.«01_k».proof.Proof.RgRef
public import Idealize.ShloMosaic.Lib.Pointwise

@[expose] public section

set_option maxRecDepth 16384

noncomputable section

namespace Cert.Rg

open Idealize.ShloMosaic Idealize.ShloMosaic.TcCoe Idealize.SL.Sem
open scoped BigOperators
open Cert.KernelIdeal Cert.KernelIdeal.Gen

theorem select_one (x y : EReal) : Scalar.select (1#1) x y = x := rfl
theorem select_zero (x y : EReal) : Scalar.select (0#1) x y = y := rfl

theorem doubling (a b h : S8x256.Idx → EReal) (j : Fin 256) (hd : ∀ r y z, a (ix2 r j) * (y + z) = a (ix2 r j) * y + a (ix2 r j) * z) (r : Fin 8) :
    k0_pay20 (F := Ideal) (iota .tc S8x256 32 [0] iota_S8x256_d0_w32) (k0_pay17 a b) (k0_pay18 a) (k0_pay19 a) h (ix2 r j)
      = state (fun q => a (ix2 q j)) (fun q => b (ix2 q j)) (h (ix2 r j)) r.val := by
  pointwise [k0_pay20, k0_pay19, k0_pay18, k0_pay17, k0_pay15, k0_pay14, k0_pay16]
  fin_cases r
  all_goals simp [IntOp.cmpi, select_one, select_zero, state, hd, mul_assoc, add_assoc]

/-! The convolution's rows: three carried ones stored at row 5, the eight new ones at row 8, read from row `o` on. -/
section Taps
variable (x : S8x256.Idx → EReal) (y : S3x256.Idx → EReal)

/-- The rows as the kernel stores them. -/
abbrev rows : List (View.Piece (Elt Ideal) S16x256 .f32) :=
  [⟨Rect.unit ![8, 0] ![8, 256] inb_S16x256_S8x256_8_0, x⟩, ⟨Rect.unit ![5, 0] ![3, 256] inb_S16x256_S3x256_5_0, y⟩]

theorem rows_at (q : Fin 16) (hq : 5 ≤ q.val) (k : Fin 256) :
    View.canon (Val := Elt Ideal) (rows x y) (ix2 q k)
      = if h : q.val < 8 then y (ix2 ⟨q.val - 5, by omega⟩ k) else x (ix2 ⟨q.val - 8, by omega⟩ k) := by
  split
  · rename_i h
    refine (View.canon_cons_of_not_mem _ _ (Rect.not_mem_set_of_axis _ _ 0 8 8 rfl rfl rfl ?_)).trans ?_
    · show q.val < 8 ∨ 8 + 8 ≤ q.val; omega
    have ee : (ix2 q k : S16x256.Idx) = (Rect.unit (s := S16x256) ![5, 0] ![3, 256] inb_S16x256_S3x256_5_0).emb
        (ix2 (⟨q.val - 5, by omega⟩ : Fin 3) k) := by
      symm
      refine Rect.emb_eq_of_coords _ _ _ fun a => ?_
      match a with
      | ⟨0, _⟩ => show q.val = 5 + 1 * (q.val - 5); omega
      | ⟨1, _⟩ => show k.val = 0 + 1 * k.val; omega
    rw [ee]
    exact View.canon_cons_emb _ _ _ _
  · rename_i h
    have ee : (ix2 q k : S16x256.Idx) = (Rect.unit (s := S16x256) ![8, 0] ![8, 256] inb_S16x256_S8x256_8_0).emb
        (ix2 (⟨q.val - 8, by omega⟩ : Fin 8) k) := by
      symm
      refine Rect.emb_eq_of_coords _ _ _ fun a => ?_
      match a with
      | ⟨0, _⟩ => show q.val = 8 + 1 * (q.val - 8); omega
      | ⟨1, _⟩ => show k.val = 0 + 1 * k.val; omega
    rw [ee]
    exact View.canon_cons_emb _ _ _ _

theorem tap_read (o : Nat) (ho : 5 ≤ o) (ho' : o ≤ 8) (inb : ∀ a, (![o, 0] : Fin 2 → Nat) a + (![8, 256] : Fin 2 → Nat) a ≤ S16x256.size a) (r : Fin 8) (k : Fin 256) :
    (View.whole cc0_scratch0).readCov (Val := Elt Ideal) (rows x y) (Rect.unit (s := S16x256) ![o, 0] ![8, 256] inb).toLoadRect (ix2 r k)
      = if h : o + r.val < 8 then y (ix2 ⟨o + r.val - 5, by omega⟩ k) else x (ix2 ⟨o + r.val - 8, by omega⟩ k) := by
  rw [View.readCov_eq_canon']
  have e : (Rect.unit (s := S16x256) ![o, 0] ![8, 256] inb).toLoadRect.idx (ix2 r k) = (ix2 (⟨o + r.val, by omega⟩ : Fin 16) k : S16x256.Idx) := by
    funext a
    match a with
    | ⟨0, _⟩ => apply Fin.ext; show o + 1 * r.val = o + r.val; omega
    | ⟨1, _⟩ => apply Fin.ext; show 0 + 1 * k.val = k.val; omega
  show View.canon (Val := Elt Ideal) (rows x y) ((Rect.unit (s := S16x256) ![o, 0] ![8, 256] inb).toLoadRect.idx (ix2 r k)) = _
  rw [e]
  exact rows_at x y ⟨o + r.val, by omega⟩ (by show 5 ≤ o + r.val; omega) k
end Taps

/-! ## Convolution, gates, decay and input -/
section Pay
variable (X : S8x256.Idx → EReal) (W : S256x512.Idx → EReal) (bi : S1x512.Idx → EReal) (la : S1x256.Idx → EReal)

theorem conv_pay (cw : S4x256.Idx → EReal) (cb : S1x256.Idx → EReal) (t0 t1 t2 t3 : S8x256.Idx → EReal) (r : Fin 8) (j : Fin 256) :
    k0_pay6 (F := Ideal) cw cb t0 t1 t2 t3 (ix2 r j)
      = cb (ix2 0 j) + t0 (ix2 r j) * cw (ix2 0 j) + t1 (ix2 r j) * cw (ix2 1 j) + t2 (ix2 r j) * cw (ix2 2 j) + t3 (ix2 r j) * cw (ix2 3 j) := by
  pointwise [k0_pay6]

theorem gates_pay (r : Fin 8) (q : Fin 512) :
    k0_pay8 (F := Ideal) X W bi (ix2 r q) = (∑ k : Fin 256, X (ix2 r k) * W (ix2 k q)) + bi (ix2 0 q) := by
  pointwise [k0_pay8]

theorem sig_pay (r : Fin 8) (j : Fin 256) :
    k0_pay9 (F := Ideal) X W bi (ix2 r j) = sigm (k0_pay8 (F := Ideal) X W bi (ix2 r (⟨256 + j.val, by omega⟩ : Fin 512))) := by
  unfold k0_pay9
  generalize k0_pay8 (F := Ideal) X W bi = G
  pointwise []
  rw [zero_sub]
  rfl

theorem dlog_pay (r : Fin 8) (j : Fin 256) :
    k0_pay10 (F := Ideal) X W bi la (ix2 r j) = decayLog (k0_pay8 (F := Ideal) X W bi (ix2 r (⟨j.val, by omega⟩ : Fin 512))) (la (ix2 0 j)) := by
  unfold k0_pay10
  generalize k0_pay8 (F := Ideal) X W bi = G
  pointwise []
  rw [zero_sub, zero_sub, zero_sub, word_neg8]
  rfl

theorem dec_pay (r : Fin 8) (j : Fin 256) :
    k0_pay12 (F := Ideal) (k0_pay11 X W bi la) (ix2 r j) = Ideal.exp (k0_pay10 (F := Ideal) X W bi la (ix2 r j)) := by
  unfold k0_pay12 k0_pay11
  generalize k0_pay10 (F := Ideal) X W bi la = G
  pointwise []

theorem inp_pay (r : Fin 8) (j : Fin 256) (hl : k0_pay10 (F := Ideal) X W bi la (ix2 r j) ≤ 0) :
    k0_pay13 (F := Ideal) X (k0_pay9 X W bi) (k0_pay10 X W bi la) (k0_pay11 X W bi la) (ix2 r j)
      = Ideal.sqrt (-(Ideal.exp (((2 : ℝ) : EReal) * k0_pay10 (F := Ideal) X W bi la (ix2 r j)) - 1))
        * (k0_pay9 (F := Ideal) X W bi (ix2 r j) * X (ix2 r j)) := by
  unfold k0_pay13 k0_pay11
  revert hl
  generalize k0_pay10 (F := Ideal) X W bi la = G
  generalize k0_pay9 (F := Ideal) X W bi = S
  intro hl
  pointwise []
  rw [scale_eq hl]

theorem out_pay (h g : S8x256.Idx → EReal) (r : Fin 8) (j : Fin 256) :
    k0_pay23 (F := Ideal) h g (ix2 r j) = h (ix2 r j) * (g (ix2 r j) * sigm (g (ix2 r j))) := by
  pointwise [k0_pay23]
  rw [zero_sub]
  rfl

theorem start_pay (h : S1x1x256.Idx → EReal) (r : Fin 8) (j : Fin 256) : k0_pay4 (F := Ideal) h (ix2 r j) = h (ix3 0 0 j) := by
  pointwise [k0_pay4]

theorem held_pay (h : S8x256.Idx → EReal) (r : Fin 8) (j : Fin 256) : shapeCast S8x256 h shapeCasts_S8x256_S8x256 (ix2 r j) = h (ix2 r j) := by
  pointwise []

theorem cast_pay (h : S1x256.Idx → EReal) (j : Fin 256) : k0_pay2 (F := Ideal) h (ix3 0 0 j) = h (ix2 0 j) := by
  pointwise [k0_pay2]

theorem buf_pay (h : S8x256.Idx → EReal) (r : Fin 3) (j : Fin 256) : k0_pay1 (F := Ideal) h (ix3 0 r j) = h (ix2 ⟨5 + r.val, by omega⟩ j) := by
  pointwise [k0_pay1, k0_pay7]

theorem carry_pay (h : S1x3x256.Idx → EReal) (r : Fin 3) (j : Fin 256) : k0_pay3 (F := Ideal) h (ix2 r j) = h (ix3 0 r j) := by
  pointwise [k0_pay3]

theorem new_pay (h : S8x256.Idx → EReal) (r : Fin 8) (j : Fin 256) : k0_pay5 (F := Ideal) h (ix2 r j) = h (ix2 r j) := by
  pointwise [k0_pay5]

/-- The state kept for the next call: the last row. -/
theorem keep_pay (z : IVec S8x256 32) (p q w h : S8x256.Idx → EReal) (r : Fin 8) (j : Fin 256) :
    k0_pay22 (F := Ideal) z p q w h (ix2 r j) = k0_pay20 (F := Ideal) z p q w h (ix2 7 j) := by
  unfold k0_pay22
  generalize k0_pay20 (F := Ideal) z p q w h = G
  pointwise []

theorem all_pay (z : IVec S8x256 32) (p q w h : S8x256.Idx → EReal) (r : Fin 8) (j : Fin 256) :
    k0_pay21 (F := Ideal) z p q w h (ix2 r j) = k0_pay20 (F := Ideal) z p q w h (ix2 r j) := by
  unfold k0_pay21
  generalize k0_pay20 (F := Ideal) z p q w h = G
  pointwise []
end Pay

end Cert.Rg
-- ==== Proof.RgBlk.lean ====
/-
  The gated recurrence's blocks (program KernelIdeal): what each window holds at a grid point, one sequence of eight steps.
-/
module

public import proofs.«01_k».proof.Defs
public import proofs.«01_k».proof.Proof.Gen.KernelIdeal.Value
public import proofs.«01_k».proof.Proof.RgPay
public import Idealize.ShloMosaic.Lib.Pointwise
public import Idealize.ShloMosaic.Lib.IdealHost
public import Idealize.ShloMosaic.Lib.Claim
public import Idealize.ShloMosaic.Lib.Quiescent
public import Idealize.ShloMosaic.Lib.Pipeline.ValueKit

@[expose] public section

set_option maxRecDepth 16384

noncomputable section

namespace Cert.Rg

open Idealize.ShloMosaic Idealize.ShloMosaic.TcCoe Idealize.SL.Sem
open scoped BigOperators
open Cert.KernelIdeal Cert.KernelIdeal.Gen

variable (m : (ℓ : Loc nD τ sig) → Buf (Elt Ideal) ℓ) (c : Dev nD)

/-- The ten arguments on device `c`. -/
abbrev a0 : (⟨2, ![256, 3456]⟩ : Shape).Idx → EReal := m ((c : Thread nD τ).loc main_arg0)
abbrev a1 : (⟨3, ![32, 3, 256]⟩ : Shape).Idx → EReal := m ((c : Thread nD τ).loc main_arg1)
abbrev a2 : (⟨2, ![32, 256]⟩ : Shape).Idx → EReal := m ((c : Thread nD τ).loc main_arg2)
abbrev a3 : (⟨2, ![4, 256]⟩ : Shape).Idx → EReal := m ((c : Thread nD τ).loc main_arg3)
abbrev a4 : (⟨1, ![256]⟩ : Shape).Idx → EReal := m ((c : Thread nD τ).loc main_arg4)
abbrev a5 : (⟨3, ![4, 64, 64]⟩ : Shape).Idx → EReal := m ((c : Thread nD τ).loc main_arg5)
abbrev a6 : (⟨1, ![256]⟩ : Shape).Idx → EReal := m ((c : Thread nD τ).loc main_arg6)
abbrev a7 : (⟨3, ![4, 64, 64]⟩ : Shape).Idx → EReal := m ((c : Thread nD τ).loc main_arg7)
abbrev a8 : (⟨1, ![256]⟩ : Shape).Idx → EReal := m ((c : Thread nD τ).loc main_arg8)
abbrev a9 : (⟨1, ![256]⟩ : Shape).Idx → EReal := m ((c : Thread nD τ).loc main_arg9)

/-! ## The operands prepared before the call -/

/-- The comparison that builds the block table, on block numbers. -/
theorem same_block : ∀ p q : Fin 4, IntOp.cmpi CmpIPredicate.eq (IntOp.addi (BitVec.ofNat 32 p.val) 0#32) (BitVec.ofNat 32 q.val)
    = if p.val = q.val then 1#1 else 0#1 := by decide

theorem block_word (a b : Fin 256) :
    (FloatOps.uitofp (F := Ideal) .f32 (if a.val / 64 = b.val / 64 then 1#1 else 0#1 : BitVec 1) : EReal)
      = if a.val / 64 = b.val / 64 then (1 : EReal) else 0 := by
  split
  · show (((1#1 : BitVec 1).toNat : ℝ) : EReal) = 1
    norm_num
  · show (((0#1 : BitVec 1).toNat : ℝ) : EReal) = 0
    norm_num

/-- The weight's entry in the block-diagonal layout. -/
def diag (w : (⟨3, ![4, 64, 64]⟩ : Shape).Idx → EReal) (k j : Fin 256) : EReal :=
  w (ix3 ⟨k.val / 64, by omega⟩ ⟨k.val % 64, Nat.mod_lt _ (by decide)⟩ ⟨j.val % 64, Nat.mod_lt _ (by decide)⟩)
      * (if k.val / 64 = j.val / 64 then (1 : EReal) else 0)

theorem diag_word (w : (⟨3, ![4, 64, 64]⟩ : Shape).Idx → EReal) (k j : Fin 256) :
    (w (ix3 ⟨k.val / 64, by omega⟩ ⟨k.val % 64, Nat.mod_lt _ (by decide)⟩ ⟨j.val % 64, Nat.mod_lt _ (by decide)⟩)
      * (FloatOps.uitofp (F := Ideal) .f32 (IntOp.cmpi CmpIPredicate.eq (IntOp.addi (BitVec.ofNat 32 (k.val / 64)) 0#32) (BitVec.ofNat 32 (j.val / 64)) : BitVec 1) : EReal))
    = diag w k j := by
  have e := same_block ⟨k.val / 64, by omega⟩ ⟨j.val / 64, by omega⟩
  simp only at e
  unfold diag
  rw [e, block_word]

theorem weight_r (k j : Fin 256) : V m c main_v26 (ix2 k (⟨j.val, by omega⟩ : Fin 512)) = diag (a5 m c) k j := by
  rw [← diag_word]
  entry_read
  pointwise

theorem weight_i (k j : Fin 256) : V m c main_v26 (ix2 k (⟨256 + j.val, by omega⟩ : Fin 512)) = diag (a7 m c) k j := by
  rw [← diag_word]
  entry_read
  pointwise

theorem bias_read (j : Fin 512) : V m c main_v28 (ix2 0 j)
    = if h : j.val < 256 then a6 m c (ix1 ⟨j.val, h⟩) else a8 m c (ix1 ⟨j.val - 256, by omega⟩) := by
  entry_read
  pointwise

/-- The block index of each window at each grid point. -/
theorem idx_at : ∀ t : Fin grid0.N, win0_0.index t = ![t.val, 0] ∧ win0_1.index t = ![t.val, 1] ∧ win0_2.index t = ![t.val, 0, 0]
    ∧ win0_3.index t = ![t.val, 0, 0] ∧ win0_4.index t = ![0, 0] ∧ win0_5.index t = ![0, 0] ∧ win0_6.index t = ![0, 0] ∧ win0_7.index t = ![0, 0]
    ∧ win0_8.index t = ![0, 0] ∧ win0_9.index t = ![t.val, 0] ∧ win0_10.index t = ![t.val, 0, 0] ∧ win0_11.index t = ![t.val, 0, 0] := by
  decide +kernel

section Blocks
variable (t : Fin cfg0.N) (s : Fin 32) (hs : s.val = t.val)
include hs

theorem blk0 (r : Fin 8) (k : Fin 256) : X0_0 m c t (ix2 r k)
    = a0 m c (ix2 (⟨s.val * 8 + r.val, by omega⟩ : Fin 256) (⟨k.val, by omega⟩ : Fin 3456)) := by
  unfold X0_0 Pipeline.Window.fill
  rw [dif_pos (moved0_0 t (ix2 r k))]
  blk_ext [iblk, V, idx_at t]
theorem blk1 (r : Fin 8) (k : Fin 256) : X0_1 m c t (ix2 r k)
    = a0 m c (ix2 (⟨s.val * 8 + r.val, by omega⟩ : Fin 256) (⟨256 + k.val, by omega⟩ : Fin 3456)) := by
  unfold X0_1 Pipeline.Window.fill
  rw [dif_pos (moved0_1 t (ix2 r k))]
  blk_ext [iblk, V, idx_at t]
theorem blk2 (r : Fin 3) (k : Fin 256) : iblk m c 2 t (ix3 (0 : Fin 1) r k) = a1 m c (ix3 s r k) := by
  blk_ext [iblk, V, idx_at t]
theorem blk3 (k : Fin 256) : iblk m c 3 t (ix3 (0 : Fin 1) (0 : Fin 1) k) = a2 m c (ix2 s k) := by
  have e : ((cfg0.win 3).blk t).view.emb (ix3 (0 : Fin 1) (0 : Fin 1) k) = ix3 s (0 : Fin 1) k := by blk_ext [idx_at t]
  unfold iblk
  rw [View.read_apply, e]
  show V m c main_v30 (ix3 s (0 : Fin 1) k) = _
  entry_read
  pointwise
end Blocks

section Weights
variable (t : Fin cfg0.N)

theorem blk4 (p : Fin 4) (k : Fin 256) : iblk m c 4 t (ix2 p k) = a3 m c (ix2 p k) := by
  blk_ext [iblk, V, idx_at t]
theorem blk5 (k : Fin 256) : iblk m c 5 t (ix2 (0 : Fin 1) k) = a4 m c (ix1 k) := by
  have e : ((cfg0.win 5).blk t).view.emb (ix2 (0 : Fin 1) k) = ix2 (0 : Fin 1) k := by blk_ext [idx_at t]
  unfold iblk
  rw [View.read_apply, e]
  show V m c main_v0 (ix2 (0 : Fin 1) k) = _
  entry_read
  pointwise
theorem blk6 (k : Fin 256) (j : Fin 512) : iblk m c 6 t (ix2 k j) = V m c main_v26 (ix2 k j) := by
  have e : ((cfg0.win 6).blk t).view.emb (ix2 k j) = ix2 k j := by blk_ext [idx_at t]
  unfold iblk
  rw [View.read_apply, e]
  rfl
theorem blk7 (j : Fin 512) : iblk m c 7 t (ix2 (0 : Fin 1) j) = V m c main_v28 (ix2 0 j) := by
  have e : ((cfg0.win 7).blk t).view.emb (ix2 (0 : Fin 1) j) = ix2 (0 : Fin 1) j := by blk_ext [idx_at t]
  unfold iblk
  rw [View.read_apply, e]
  rfl
theorem blk8 (k : Fin 256) : iblk m c 8 t (ix2 (0 : Fin 1) k) = a9 m c (ix1 k) := by
  have e : ((cfg0.win 8).blk t).view.emb (ix2 (0 : Fin 1) k) = ix2 (0 : Fin 1) k := by blk_ext [idx_at t]
  unfold iblk
  rw [View.read_apply, e]
  show V m c main_v29 (ix2 (0 : Fin 1) k) = _
  entry_read
  pointwise
end Weights

end Cert.Rg
-- ==== Proof.Rg.lean ====
/-
  The gated recurrence on the sample batch (program KernelIdeal): what a grid point, one sequence of eight steps, writes,
  and the claims.
-/
module

public import proofs.«01_k».proof.Defs
public import proofs.«01_k».proof.Proof.Gen.Kernel.Frame
public import proofs.«01_k».proof.Proof.Gen.KernelIdeal.Value
public import proofs.«01_k».proof.Proof.RgBlk
public import Idealize.ShloMosaic.Lib.Pointwise
public import Idealize.ShloMosaic.Lib.IdealHost
public import Idealize.ShloMosaic.Lib.Claim
public import Idealize.ShloMosaic.Lib.Quiescent
public import Idealize.ShloMosaic.Lib.Pipeline.ValueKit

@[expose] public section

set_option maxRecDepth 16384

noncomputable section

namespace Cert.Rg

open Idealize.ShloMosaic Idealize.ShloMosaic.TcCoe Idealize.SL.Sem
open scoped BigOperators
open Cert.KernelIdeal Cert.KernelIdeal.Gen

variable (m : (ℓ : Loc nD τ sig) → Buf (Elt Ideal) ℓ) (c : Dev nD)

/-! ## The values at one grid point -/

section Point
variable (t : Fin cfg0.N) (s : Fin 32) (hs : s.val = t.val)

/-- What the kernel reads for one tap of the convolution. -/
def tapAt (o : Nat) (inb : ∀ a, (![o, 0] : Fin 2 → Nat) a + (![8, 256] : Fin 2 → Nat) a ≤ S16x256.size a) : S8x256.Idx → EReal :=
  (View.whole cc0_scratch0).readCov (Val := Elt Ideal) (rows (k0_pay5 (F := Ideal) (X0_0 m c t)) (k0_pay3 (F := Ideal) (iblk m c 2 t)))
    (Rect.unit (s := S16x256) ![o, 0] ![8, 256] inb).toLoadRect

/-- The convolution's output. -/
def XC : S8x256.Idx → EReal :=
  k0_pay6 (F := Ideal) (iblk m c 4 t) (iblk m c 5 t) (tapAt m c t 5 inb_S16x256_S8x256_5_0) (tapAt m c t 6 inb_S16x256_S8x256_6_0)
    (tapAt m c t 7 inb_S16x256_S8x256_7_0) (tapAt m c t 8 inb_S16x256_S8x256_8_0)

/-- The decay and the input of the recurrence, and the states it passes through. -/
def decA : S8x256.Idx → EReal := k0_pay12 (F := Ideal) (k0_pay11 (XC m c t) (iblk m c 6 t) (iblk m c 7 t) (iblk m c 8 t))
def inpB : S8x256.Idx → EReal :=
  k0_pay13 (F := Ideal) (XC m c t) (k0_pay9 (XC m c t) (iblk m c 6 t) (iblk m c 7 t))
    (k0_pay10 (XC m c t) (iblk m c 6 t) (iblk m c 7 t) (iblk m c 8 t)) (k0_pay11 (XC m c t) (iblk m c 6 t) (iblk m c 7 t) (iblk m c 8 t))
def stepH : S8x256.Idx → EReal :=
  k0_pay20 (F := Ideal) (iota .tc S8x256 32 [0] iota_S8x256_d0_w32) (k0_pay17 (decA m c t) (inpB m c t)) (k0_pay18 (decA m c t)) (k0_pay19 (decA m c t))
    (k0_pay4 (F := Ideal) (iblk m c 3 t))

include hs

theorem tap_at (o : Nat) (ho : 5 ≤ o) (ho' : o ≤ 8) (inb : ∀ a, (![o, 0] : Fin 2 → Nat) a + (![8, 256] : Fin 2 → Nat) a ≤ S16x256.size a)
    (r : Fin 8) (k : Fin 256) (q : Fin 11) (hq : q.val = o - 5 + r.val) : tapAt m c t o inb (ix2 r k) = tap (a0 m c) (a1 m c) s q k := by
  refine (tap_read _ _ o ho ho' inb r k).trans ?_
  unfold tap
  by_cases h : o + r.val < 8
  · rw [dif_pos h, dif_pos (by omega)]
    refine (carry_pay _ _ _).trans ((blk2 m c t s hs _ _).trans ?_)
    exact congrArg (fun z => a1 m c (ix3 s z k)) (Fin.ext (by show o + r.val - 5 = q.val; omega))
  · rw [dif_neg h, dif_neg (by omega)]
    refine (new_pay _ _ _).trans ((blk0 m c t s hs _ _).trans ?_)
    exact congrArg (fun z => a0 m c (ix2 z (⟨k.val, by omega⟩ : Fin 3456))) (Fin.ext (by show s.val * 8 + (o + r.val - 8) = s.val * 8 + (q.val - 3); omega))

theorem conv_at (r : Fin 8) (j : Fin 256) : XC m c t (ix2 r j) = conv (a0 m c) (a1 m c) (a3 m c) (a4 m c) s r j := by
  unfold XC
  refine (conv_pay _ _ _ _ _ _ r j).trans ?_
  rw [tap_at m c t s hs 5 (by decide) (by decide) inb_S16x256_S8x256_5_0 r j ⟨r.val, by omega⟩ (by simp),
    tap_at m c t s hs 6 (by decide) (by decide) inb_S16x256_S8x256_6_0 r j ⟨1 + r.val, by omega⟩ rfl,
    tap_at m c t s hs 7 (by decide) (by decide) inb_S16x256_S8x256_7_0 r j ⟨2 + r.val, by omega⟩ rfl,
    tap_at m c t s hs 8 (by decide) (by decide) inb_S16x256_S8x256_8_0 r j ⟨3 + r.val, by omega⟩ rfl,
    blk5, blk4, blk4, blk4, blk4]
  rfl

theorem gate_r_at (r : Fin 8) (j : Fin 256) : k0_pay8 (F := Ideal) (XC m c t) (iblk m c 6 t) (iblk m c 7 t) (ix2 r (⟨j.val, by omega⟩ : Fin 512))
    = gateIn (a0 m c) (a1 m c) (a3 m c) (a4 m c) (a5 m c) (a6 m c) s r j := by
  refine (gates_pay _ _ _ r _).trans ?_
  unfold gateIn
  rw [← block_sum]
  refine congrArg₂ (· + ·) (Finset.sum_congr rfl fun k _ => ?_) ?_
  · rw [conv_at m c t s hs, blk6, weight_r]
    rfl
  · rw [blk7, bias_read, dif_pos j.isLt]

theorem gate_i_at (r : Fin 8) (j : Fin 256) : k0_pay8 (F := Ideal) (XC m c t) (iblk m c 6 t) (iblk m c 7 t) (ix2 r (⟨256 + j.val, by omega⟩ : Fin 512))
    = gateIn (a0 m c) (a1 m c) (a3 m c) (a4 m c) (a7 m c) (a8 m c) s r j := by
  refine (gates_pay _ _ _ r _).trans ?_
  unfold gateIn
  rw [← block_sum]
  refine congrArg₂ (· + ·) (Finset.sum_congr rfl fun k _ => ?_) ?_
  · rw [conv_at m c t s hs, blk6, weight_i]
    rfl
  · rw [blk7, bias_read, dif_neg (by show ¬ (256 + j.val < 256); omega)]
    exact congrArg (fun z => a8 m c (ix1 z)) (Fin.ext (by show 256 + j.val - 256 = j.val; omega))

theorem dlog_at (r : Fin 8) (j : Fin 256) : k0_pay10 (F := Ideal) (XC m c t) (iblk m c 6 t) (iblk m c 7 t) (iblk m c 8 t) (ix2 r j)
    = dlog (a0 m c) (a1 m c) (a3 m c) (a4 m c) (a5 m c) (a6 m c) (a9 m c) s r j := by
  refine (dlog_pay _ _ _ _ r j).trans ?_
  rw [gate_r_at m c t s hs, blk8]
  rfl

theorem dec_at (r : Fin 8) (j : Fin 256) : decA m c t (ix2 r j) = Ideal.exp (dlog (a0 m c) (a1 m c) (a3 m c) (a4 m c) (a5 m c) (a6 m c) (a9 m c) s r j) := by
  unfold decA
  refine (dec_pay _ _ _ _ r j).trans ?_
  rw [dlog_at m c t s hs]

theorem inp_at (r : Fin 8) (j : Fin 256) : inpB m c t (ix2 r j) = inp (a0 m c) (a1 m c) (a3 m c) (a4 m c) (a5 m c) (a6 m c) (a7 m c) (a8 m c) (a9 m c) s r j := by
  unfold inpB
  refine (inp_pay _ _ _ _ r j ?_).trans ?_
  · rw [dlog_at m c t s hs]
    exact decayLog_nonpos _ _
  · rw [dlog_at m c t s hs, sig_pay, gate_i_at m c t s hs, conv_at m c t s hs]
    rfl

theorem state_at (r : Fin 8) (j : Fin 256) : stepH m c t (ix2 r j) = st (a0 m c) (a1 m c) (a2 m c) (a3 m c) (a4 m c) (a5 m c) (a6 m c) (a7 m c) (a8 m c) (a9 m c) s j r.val := by
  unfold stepH
  refine (doubling (decA m c t) (inpB m c t) _ j ?_ r).trans ?_
  · intro r y z
    rw [dec_at m c t s hs]
    exact decay_distrib (decayLog_nonpos _ _) y z
  · unfold st
    congr 1
    · funext q; exact dec_at m c t s hs q j
    · funext q; exact inp_at m c t s hs q j
    · exact (start_pay _ r j).trans (blk3 m c t s hs j)

end Point

/-! ## The three arrays the kernel leaves -/

section Arrays
open Cert.ReferenceIdeal.Read

/-- The reference's results at the kernel's arguments. -/
abbrev outY : S256x256.Idx → EReal := val_main_v135 (F := Ideal) (a0 m c) (a1 m c) (a2 m c) (a3 m c) (a4 m c) (a5 m c) (a6 m c) (a7 m c) (a8 m c) (a9 m c)
abbrev outC : S32x3x256.Idx → EReal := val_main_v35 (F := Ideal) (a0 m c) (a1 m c)
abbrev outH : S32x1x256.Idx → EReal := val_main_v136 (F := Ideal) (a0 m c) (a1 m c) (a2 m c) (a3 m c) (a4 m c) (a5 m c) (a6 m c) (a7 m c) (a8 m c) (a9 m c)

theorem out_at (t : Fin cfg0.N) (s : Fin 32) (hs : s.val = t.val) (r : Fin 8) (j : Fin 256) :
    k0_pay23 (F := Ideal) (k0_pay21 (F := Ideal) (iota .tc S8x256 32 [0] iota_S8x256_d0_w32) (k0_pay17 (decA m c t) (inpB m c t)) (k0_pay18 (decA m c t)) (k0_pay19 (decA m c t))
      (k0_pay4 (F := Ideal) (iblk m c 3 t))) (X0_1 m c t) (ix2 r j) = outY m c (ix2 (⟨s.val * 8 + r.val, by omega⟩ : Fin 256) j) := by
  refine (out_pay _ _ r j).trans ?_
  rw [all_pay, blk1 m c t s hs]
  refine (congrArg (· * _) (state_at m c t s hs r j)).trans ?_
  rw [outY, ref_out]
  unfold gated
  have e1 : (⟨(s.val * 8 + r.val) / 8, by omega⟩ : Fin 32) = s := Fin.ext (by show (s.val * 8 + r.val) / 8 = s.val; omega)
  have e2 : (s.val * 8 + r.val) % 8 = r.val := by omega
  show _ = st (a0 m c) (a1 m c) (a2 m c) (a3 m c) (a4 m c) (a5 m c) (a6 m c) (a7 m c) (a8 m c) (a9 m c) ⟨(s.val * 8 + r.val) / 8, _⟩ j ((s.val * 8 + r.val) % 8) * _
  rw [e1, e2]

theorem buf_at (t : Fin cfg0.N) (s : Fin 32) (hs : s.val = t.val) (r : Fin 3) (j : Fin 256) :
    k0_pay1 (F := Ideal) (X0_0 m c t) (ix3 0 r j) = outC m c (ix3 s r j) := by
  refine (buf_pay _ r j).trans ?_
  rw [blk0 m c t s hs, outC, ref_buf]
  exact congrArg (fun z => a0 m c (ix2 z (⟨j.val, by omega⟩ : Fin 3456))) (Fin.ext (by show s.val * 8 + (5 + r.val) = s.val * 8 + (r.val + 5); omega))

/-- The first row of what is kept of the state. -/
theorem kept_read (w : S8x256.Idx → EReal) (L : List (View.Piece (Elt Ideal) S8x256 .f32)) (j : Fin 256) :
    (View.whole cc0_scratch4).readCov (Val := Elt Ideal) ((⟨Rect.unit ![0, 0] ![8, 256] inb_S8x256_S8x256_0_0, w⟩ : View.Piece (Elt Ideal) S8x256 .f32) :: L)
      (Rect.unit (s := S8x256) ![0, 0] ![1, 256] inb_S8x256_S1x256_0_0).toLoadRect (ix2 (0 : Fin 1) j) = w (ix2 0 j) := by
  rw [View.readCov_eq_canon']
  have e : (Rect.unit (s := S8x256) ![0, 0] ![1, 256] inb_S8x256_S1x256_0_0).toLoadRect.idx (ix2 (0 : Fin 1) j)
      = (Rect.unit (s := S8x256) ![0, 0] ![8, 256] inb_S8x256_S8x256_0_0).emb (ix2 (0 : Fin 8) j) := by
    funext a
    match a with
    | ⟨0, _⟩ => apply Fin.ext; rfl
    | ⟨1, _⟩ => apply Fin.ext; rfl
  show View.canon (Val := Elt Ideal) _ ((Rect.unit (s := S8x256) ![0, 0] ![1, 256] inb_S8x256_S1x256_0_0).toLoadRect.idx (ix2 (0 : Fin 1) j)) = _
  rw [e]
  exact View.canon_cons_emb _ _ _ _

theorem last_at (t : Fin cfg0.N) (s : Fin 32) (hs : s.val = t.val) (L : List (View.Piece (Elt Ideal) S8x256 .f32)) (j : Fin 256) :
    k0_pay2 (F := Ideal) ((View.whole cc0_scratch4).readCov (Val := Elt Ideal) ((⟨Rect.unit ![0, 0] ![8, 256] inb_S8x256_S8x256_0_0,
        k0_pay22 (F := Ideal) (iota .tc S8x256 32 [0] iota_S8x256_d0_w32) (k0_pay17 (decA m c t) (inpB m c t)) (k0_pay18 (decA m c t)) (k0_pay19 (decA m c t))
          (k0_pay4 (F := Ideal) (iblk m c 3 t))⟩ : View.Piece (Elt Ideal) S8x256 .f32) :: L)
      (Rect.unit (s := S8x256) ![0, 0] ![1, 256] inb_S8x256_S1x256_0_0).toLoadRect) (ix3 0 0 j) = outH m c (ix3 s 0 j) := by
  refine (cast_pay _ j).trans ((kept_read _ L j).trans ?_)
  rw [keep_pay, outH, ref_last]
  exact state_at m c t s hs 7 j

theorem final9 : (dats m 0 c).arrAt 9 cfg0.N = outY m c := by
  refine (dats m 0 c).arrAt_eq_of_covers 9 _ (by decide +kernel) fun t hf y => ?_
  have ht : t.val < 32 := N_0 ▸ t.isLt
  have h0 : (y 0).val < 8 := (y 0).isLt
  have h1 : (y 1).val < 256 := (y 1).isLt
  have key := out_at m c t ⟨t.val, ht⟩ rfl ⟨(y 0).val, h0⟩ ⟨(y 1).val, h1⟩
  have e : ((cfg0.win 9).blk t).view.emb y
      = (ix2 (⟨t.val * 8 + (y 0).val, by omega⟩ : Fin 256) (⟨(y 1).val, h1⟩ : Fin 256)) := by
    blk_ext [idx_at t]
  blk_simp
  rw [after0_9]
  unfold outsAt0
  frame_out
  exact Eq.trans (congrArg _ (ix2_eta y).symm) (key.trans (congrArg (outY m c) e.symm))

theorem final10 : (dats m 0 c).arrAt 10 cfg0.N = outC m c := by
  refine (dats m 0 c).arrAt_eq_of_covers 10 _ (by decide +kernel) fun t hf y => ?_
  have ht : t.val < 32 := N_0 ▸ t.isLt
  have h1 : (y 1).val < 3 := (y 1).isLt
  have h2 : (y 2).val < 256 := (y 2).isLt
  have key := buf_at m c t ⟨t.val, ht⟩ rfl ⟨(y 1).val, h1⟩ ⟨(y 2).val, h2⟩
  have e : ((cfg0.win 10).blk t).view.emb y
      = (ix3 (⟨t.val, ht⟩ : Fin 32) (⟨(y 1).val, h1⟩ : Fin 3) (⟨(y 2).val, h2⟩ : Fin 256)) := by
    blk_ext [idx_at t]
  have ep : y = ix3 (0 : Fin 1) (⟨(y 1).val, h1⟩ : Fin 3) (⟨(y 2).val, h2⟩ : Fin 256) := by
    blk_ext []
  blk_simp
  rw [after0_10]
  unfold outsAt0
  frame_out
  exact Eq.trans (congrArg _ ep) (key.trans (congrArg (outC m c) e.symm))

theorem final11 : (dats m 0 c).arrAt 11 cfg0.N = outH m c := by
  refine (dats m 0 c).arrAt_eq_of_covers 11 _ (by decide +kernel) fun t hf y => ?_
  have ht : t.val < 32 := N_0 ▸ t.isLt
  have h2 : (y 2).val < 256 := (y 2).isLt
  have key := fun L => last_at m c t ⟨t.val, ht⟩ rfl L ⟨(y 2).val, h2⟩
  have e : ((cfg0.win 11).blk t).view.emb y
      = (ix3 (⟨t.val, ht⟩ : Fin 32) (0 : Fin 1) (⟨(y 2).val, h2⟩ : Fin 256)) := by
    blk_ext [idx_at t]
  have ep : y = ix3 (0 : Fin 1) (0 : Fin 1) (⟨(y 2).val, h2⟩ : Fin 256) := by
    blk_ext []
  blk_simp
  rw [after0_11]
  unfold outsAt0
  frame_out
  exact Eq.trans (congrArg _ ep) ((key _).trans (congrArg (outH m c) e.symm))

end Arrays

/-! ## The claims -/

/-- Both kernels' frames are the generated ones. -/
theorem frame_bits : Cert.quiescent_Kernel := fun m ρ _ => Cert.Kernel.Gen.frame m ρ
theorem frame_ideal : Cert.quiescent_KernelIdeal := fun m ρ _ => Cert.KernelIdeal.Gen.frame m ρ

/-- The reference's frame: its run read at the arguments; it declares no semaphore. -/
theorem frame_ref : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- No operation was rewritten between the kernel and its idealized form. -/
theorem preserved : Cert.preserves_Kernel_KernelIdeal := trivial

/-- From agreeing arguments the kernel's three result arrays end at the reference's. -/
theorem value : Cert.algebraic_KernelIdeal_ReferenceIdeal := by
  intro m ρ m' ρ' _ hagree
  refine ⟨fun c => outY m c, fun c => outC m c, fun c => outH m c, ?_, ?_⟩
  · exact (θ_run Cert.KernelIdeal.defs _ _).mono (fun _ h c =>
      ⟨(h c).1.trans (final9 m c), (h c).2.1.trans (final10 m c), (h c).2.2.1.trans (final11 m c), (h c).2.2.2⟩)
      (Cert.KernelIdeal.Value.run_blocks (F := Ideal) m ρ)
  · refine (θ_run Cert.ReferenceIdeal.defs _ _).mono (fun _ h c => ?_)
      (Cert.ReferenceIdeal.Value.run (F := Ideal) m' ρ')
    obtain ⟨h0, h1, h2, h3, h4, h5, h6, h7, h8, h9⟩ := hagree c
    obtain ⟨r0, r1, r2, rest⟩ := h c
    refine ⟨r0.trans ?_, r1.trans ?_, r2.trans ?_, rest⟩
    · refine (Cert.ReferenceIdeal.Read.val_main_v135_eq (F := Ideal) _).trans ?_
      show Cert.ReferenceIdeal.Read.val_main_v135 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) (m' (c.tc.loc Cert.ReferenceIdeal.main_arg9)) = outY m c
      rw [h0, h1, h2, h3, h4, h5, h6, h7, h8, h9]
    · refine (Cert.ReferenceIdeal.Read.val_main_v35_eq (F := Ideal) _).trans ?_
      show Cert.ReferenceIdeal.Read.val_main_v35 (F := Ideal) (m' (c.tc.loc Cert.ReferenceIdeal.main_arg0)) (m' (c.tc.loc Cert.ReferenceIdeal.main_arg1)) = outC m c
      rw [h0, h1]
    · refine (Cert.ReferenceIdeal.Read.val_main_v136_eq (F := Ideal) _).trans ?_
      show Cert.ReferenceIdeal.Read.val_main_v136 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) (m' (c.tc.loc Cert.ReferenceIdeal.main_arg9)) = outH m c
      rw [h0, h1, h2, h3, h4, h5, h6, h7, h8, h9]

end Cert.Rg
-- ==== Proof.OutMath.lean ====
/-
  The mathematics of the output projection, of either batch: of `M` tokens, whose embeddings lie among `Q` rows.
-/
module

public import Idealize.ShloMosaic.Lib.Pointwise
public import Idealize.ShloMosaic.Lib.Claim
public import Idealize.ShloMosaic.Lib.Quiescent
public import Idealize.ShloMosaic.Lib.Pipeline.ValueKit

@[expose] public section

noncomputable section

namespace Cert.OutProj

open Idealize.ShloMosaic Idealize.ShloMosaic.TcCoe Idealize.SL.Sem
open scoped BigOperators

/-! ## The mathematics of one entry -/

/-- The logistic function as both programs compute it. -/
def sigm (x : EReal) : EReal := Ideal.div 1 (1 + Ideal.exp (-x))

/-- A sum over 1024 positions is the sum over the first 256, the next 512 and the last 256. -/
theorem sum_parts (f : Fin 1024 → EReal) :
    ∑ k : Fin 1024, f k = (∑ k : Fin 256, f ⟨k.val, by omega⟩ + ∑ k : Fin 512, f ⟨256 + k.val, by omega⟩)
      + ∑ k : Fin 256, f ⟨768 + k.val, by omega⟩ := by
  have h1 : ∑ k : Fin 1024, f k = ∑ k : Fin (768 + 256), f ⟨k.val, by omega⟩ := rfl
  have h2 : ∑ k : Fin 768, f ⟨k.val, by omega⟩ = ∑ k : Fin (256 + 512), f ⟨k.val, by omega⟩ := rfl
  rw [h1, Fin.sum_univ_add]
  exact congrArg₂ (· + ·) (h2.trans (Fin.sum_univ_add _)) rfl

variable {M Q : ℕ} (x0 : (⟨2, ![M, 1024]⟩ : Shape).Idx → EReal) (x1 : (⟨2, ![M, 256]⟩ : Shape).Idx → EReal)
  (x2 : (⟨2, ![M, 512]⟩ : Shape).Idx → EReal) (x3 : (⟨2, ![M, 3456]⟩ : Shape).Idx → EReal)
  (x4 : (⟨2, ![M, 256]⟩ : Shape).Idx → EReal) (x5 : (⟨2, ![Q, 256]⟩ : Shape).Idx → EReal)
  (x6 x7 : (⟨2, ![1024, 1024]⟩ : Shape).Idx → EReal) (x8 : (⟨2, ![256, 1024]⟩ : Shape).Idx → EReal)
  (x9 : (⟨1, ![1024]⟩ : Shape).Idx → EReal)

/-- The residual row after the three branches' projections, at token `R` and column `j`. -/
def mix (R : Fin M) (j : Fin 1024) : EReal :=
  x0 (ix2 R j) + ∑ k : Fin 256, x1 (ix2 R k) * x6 (ix2 ⟨k.val, by omega⟩ j)
    + ∑ k : Fin 512, x2 (ix2 R k) * (x3 (ix2 R ⟨1024 + k.val, by omega⟩) * sigm (x3 (ix2 R ⟨1024 + k.val, by omega⟩)))
        * x6 (ix2 ⟨256 + k.val, by omega⟩ j)
    + ∑ k : Fin 256, x4 (ix2 R k) * x6 (ix2 ⟨768 + k.val, by omega⟩ j)

/-- The projected layer embedding in row `T` at column `j`. -/
def emb (T : Fin Q) (j : Fin 1024) : EReal :=
  ∑ k : Fin 256, x5 (ix2 T k) * x8 (ix2 k j)

/-- The layer's output at token `R` and column `j`; the token's embedding is row `T` of the layers' embeddings. -/
def out (R : Fin M) (T : Fin Q) (j : Fin 1024) : EReal :=
  mix x0 x1 x2 x3 x4 x6 R j
    + sigm (∑ k : Fin 1024, mix x0 x1 x2 x3 x4 x6 R k * x7 (ix2 k j))
      * (emb x5 x8 T j
          * Ideal.rsqrt (Ideal.div (∑ l : Fin 1024, emb x5 x8 T l * emb x5 x8 T l) (Ideal.ofBits .f32 0x44800000#32)
              + Ideal.ofBits .f32 0x358637BD#32)
          * x9 (ix1 j))

end Cert.OutProj
-- ==== Proof.OutProj.lean ====
/-
  The output projection of the second layer, prompt batch (program Kernel3Ideal), against its reference
  (Reference3Ideal).

  One grid point takes 512 tokens. For a token with residual row `x` and the three branches' rows `ya`, `yb`, `yc` it
  computes `r = x + ya·Wa + (yb·silu gb)·Wb + yc·Wc` by three products with the row blocks 0–255, 256–767 and 768–1023
  of the weight, and then `r + sigmoid(r·G) · rmsnorm(p·E)`. The reference joins the three branches to one row of 1024
  entries and takes one product.
-/
module

public import proofs.«01_k».proof.Defs
public import proofs.«01_k».proof.Proof.Gen.Kernel3.Frame
public import proofs.«01_k».proof.Proof.Gen.Kernel3Ideal.Value
public import proofs.«01_k».proof.Proof.Gen.Reference3Ideal.Read
public import proofs.«01_k».proof.Proof.OutMath
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.OutProj

open Idealize.ShloMosaic Idealize.ShloMosaic.TcCoe Idealize.SL.Sem
open scoped BigOperators

variable (x0 : (⟨2, ![16384, 1024]⟩ : Shape).Idx → EReal) (x1 : (⟨2, ![16384, 256]⟩ : Shape).Idx → EReal)
  (x2 : (⟨2, ![16384, 512]⟩ : Shape).Idx → EReal) (x3 : (⟨2, ![16384, 3456]⟩ : Shape).Idx → EReal)
  (x4 : (⟨2, ![16384, 256]⟩ : Shape).Idx → EReal) (x5 : (⟨2, ![32768, 256]⟩ : Shape).Idx → EReal)
  (x6 x7 : (⟨2, ![1024, 1024]⟩ : Shape).Idx → EReal) (x8 : (⟨2, ![256, 1024]⟩ : Shape).Idx → EReal)
  (x9 : (⟨1, ![1024]⟩ : Shape).Idx → EReal)

/-- The row of token `R`'s embedding: the second layer's rows follow the first's. -/
abbrev row (R : Fin 16384) : Fin 32768 := ⟨16384 + R.val, by omega⟩

/-! ## The reference computes it -/

section Ref
open Cert.Reference3Ideal.Read

/-- The reference's residual row is `mix`: the joined row's product is the three parts' products. -/
theorem ref_mix (R : Fin 16384) (j : Fin 1024) :
    val_main_v5 (F := Ideal) x0 x1 x2 x3 x4 x6 (ix2 R j) = mix x0 x1 x2 x3 x4 x6 R j := by
  pointwise [val_main_v5, val_main_v4, val_main_v3, val_main_v2, val_main_v1, val_main_v0, val_main_call0_v5, val_main_call0_v4, val_main_call0_v3, val_main_call0_v2, val_main_call0_v1, val_main_call0_v0, val_main_call0_cst, val_main_call0_cst_0]
  rw [sum_parts, ← add_assoc, ← add_assoc]
  unfold mix sigm
  refine congrArg₂ (· + ·) (congrArg₂ (· + ·) (congrArg₂ (· + ·) rfl ?_) ?_) ?_ <;>
    refine Finset.sum_congr rfl fun k _ => ?_
  · have hk := k.isLt
    simp only [hk, dite_true]
  · have hk := k.isLt
    have a : ¬ 256 + k.val < 256 := by omega
    have e : 256 + k.val - 256 = k.val := by omega
    simp only [a, dite_false, e, hk, dite_true]
  · have hk := k.isLt
    have a : ¬ 768 + k.val < 256 := by omega
    have b : ¬ 768 + k.val - 256 < 512 := by omega
    have e : 768 + k.val - 256 - 512 = k.val := by omega
    simp only [a, dite_false, b, e]

/-- The reference's embedding product is `emb`. -/
theorem ref_emb (R : Fin 16384) (j : Fin 1024) : val_main_v14 (F := Ideal) x5 x8 (ix2 R j) = emb x5 x8 (row R) j := by
  pointwise [val_main_v14, val_main_v13]
  unfold emb
  refine Finset.sum_congr rfl fun k _ => ?_
  blk_ext []

/-- The reference's result is `out`. -/
theorem ref_out (R : Fin 16384) (j : Fin 1024) :
    val_main_v29 (F := Ideal) x0 x1 x2 x3 x4 x5 x6 x7 x8 x9 (ix2 R j) = out x0 x1 x2 x3 x4 x5 x6 x7 x8 x9 R (row R) j := by
  pointwise [val_main_v29, val_main_v28, val_main_v27, val_main_v26, val_main_v25, val_main_v24, val_main_v23, val_main_v22, val_main_v21, val_main_v20, val_main_v19, val_main_v18, val_main_v17, val_main_v16, val_main_v15, val_main_v12, val_main_v11, val_main_v10, val_main_v9, val_main_v8, val_main_v7, val_main_v6, val_main_cst, val_main_cst_0, val_main_cst_1, val_main_cst_2, val_main_cst_3]
  simp only [ref_mix, ref_emb]
  rfl

end Ref

/-! ## What one grid point of the kernel computes -/

open Cert.Kernel3Ideal Cert.Kernel3Ideal.Gen

variable (m : (ℓ : Loc nD τ sig) → Buf (Elt Ideal) ℓ)

/-- The block index of each window at each grid point. -/
theorem idx_at : ∀ t : Fin grid0.N, win0_0.index t = ![t.val, 0] ∧ win0_1.index t = ![t.val, 0] ∧ win0_2.index t = ![t.val, 0]
    ∧ win0_3.index t = ![t.val, 2] ∧ win0_4.index t = ![t.val, 0] ∧ win0_5.index t = ![32 + t.val, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![t.val, 0] := by
  decide +kernel

section Blocks
variable (c : Dev nD) (t : Fin cfg0.N) (r : Fin 512) (R : Fin 16384) (hR : R.val = t.val * 512 + r.val)
include hR

theorem blk0 (k : Fin 1024) : iblk m c 0 t (ix2 r k) = m ((c : Thread nD τ).loc main_arg0) (ix2 R k) := by
  blk_ext [iblk, V, idx_at t]
theorem blk1 (k : Fin 256) : iblk m c 1 t (ix2 r k) = m ((c : Thread nD τ).loc main_arg1) (ix2 R k) := by
  blk_ext [iblk, V, idx_at t]
theorem blk2 (k : Fin 512) : iblk m c 2 t (ix2 r k) = m ((c : Thread nD τ).loc main_arg2) (ix2 R k) := by
  blk_ext [iblk, V, idx_at t]
theorem blk3 (k : Fin 512) : X0_3 m c t (ix2 r k) = m ((c : Thread nD τ).loc main_arg3) (ix2 R ⟨1024 + k.val, by omega⟩) := by
  unfold X0_3 Pipeline.Window.fill
  rw [dif_pos (moved0_3 t (ix2 r k))]
  blk_ext [iblk, V, idx_at t]
theorem blk4 (k : Fin 256) : iblk m c 4 t (ix2 r k) = m ((c : Thread nD τ).loc main_arg4) (ix2 R k) := by
  blk_ext [iblk, V, idx_at t]
theorem blk5 (k : Fin 256) : iblk m c 5 t (ix2 r k) = m ((c : Thread nD τ).loc main_arg5) (ix2 (row R) k) := by
  blk_ext [iblk, V, idx_at t]
end Blocks

section Weights
variable (c : Dev nD) (t : Fin cfg0.N) (j : Fin 1024)

theorem blk6 (k : Fin 256) : iblk m c 6 t (ix2 k j) = m ((c : Thread nD τ).loc main_arg6) (ix2 ⟨k.val, by omega⟩ j) := by
  have e : ((cfg0.win 6).blk t).view.emb (ix2 k j) = ix2 k j := by blk_ext [idx_at t]
  unfold iblk
  rw [View.read_apply, e]
  show V m c main_v1 (ix2 k j) = _
  entry_read
  pointwise
theorem blk7 (k : Fin 512) : iblk m c 7 t (ix2 k j) = m ((c : Thread nD τ).loc main_arg6) (ix2 ⟨256 + k.val, by omega⟩ j) := by
  have e : ((cfg0.win 7).blk t).view.emb (ix2 k j) = ix2 k j := by blk_ext [idx_at t]
  unfold iblk
  rw [View.read_apply, e]
  show V m c main_v3 (ix2 k j) = _
  entry_read
  pointwise
theorem blk8 (k : Fin 256) : iblk m c 8 t (ix2 k j) = m ((c : Thread nD τ).loc main_arg6) (ix2 ⟨768 + k.val, by omega⟩ j) := by
  have e : ((cfg0.win 8).blk t).view.emb (ix2 k j) = ix2 k j := by blk_ext [idx_at t]
  unfold iblk
  rw [View.read_apply, e]
  show V m c main_v5 (ix2 k j) = _
  entry_read
  pointwise
theorem blk9 (k : Fin 1024) : iblk m c 9 t (ix2 k j) = m ((c : Thread nD τ).loc main_arg7) (ix2 k j) := by
  have e : ((cfg0.win 9).blk t).view.emb (ix2 k j) = ix2 k j := by blk_ext [idx_at t]
  unfold iblk
  rw [View.read_apply, e]
  show V m c main_v6 (ix2 k j) = _
  entry_read
  pointwise
theorem blk10 (k : Fin 256) : iblk m c 10 t (ix2 k j) = m ((c : Thread nD τ).loc main_arg8) (ix2 k j) := by
  have e : ((cfg0.win 10).blk t).view.emb (ix2 k j) = ix2 k j := by blk_ext [idx_at t]
  unfold iblk
  rw [View.read_apply, e]
  show V m c main_v7 (ix2 k j) = _
  entry_read
  pointwise
theorem blk11 : iblk m c 11 t (ix2 0 j) = m ((c : Thread nD τ).loc main_arg9) (ix1 j) := by
  have e : ((cfg0.win 11).blk t).view.emb (ix2 0 j) = ix2 0 j := by blk_ext [idx_at t]
  unfold iblk
  rw [View.read_apply, e]
  show V m c main_v8 (ix2 0 j) = _
  entry_read
  pointwise
end Weights

/-- Device `c`'s layer output as a function of its launched arguments. -/
abbrev result (c : Dev nD) : Buf (Elt Ideal) ((c : Thread nD τ).loc main_v9) := fun i =>
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (i 0) (row (i 0)) (i 1)

/-- The residual part of a point's block is `mix` of the block's tokens. -/
theorem pay_mix (c : Dev nD) (t : Fin cfg0.N) (r : Fin 512) (R : Fin 16384) (hR : R.val = t.val * 512 + r.val) (j : Fin 1024) :
    k0_pay2 (iblk m c 2 t) (X0_3 m c t) (iblk m c 0 t) (iblk m c 1 t) (iblk m c 6 t) (iblk m c 7 t) (iblk m c 4 t) (iblk m c 8 t) (ix2 r j)
      = mix (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg6)) R j := by
  pointwise [k0_pay2]
  simp only [blk0 m c t r R hR, blk1 m c t r R hR, blk2 m c t r R hR, blk3 m c t r R hR, blk4 m c t r R hR, blk6, blk7, blk8, zero_sub]
  rfl

/-- What a point writes at `(r, j)` is the layer's output of its token. -/
theorem pay_out (c : Dev nD) (t : Fin cfg0.N) (r : Fin 512) (R : Fin 16384) (hR : R.val = t.val * 512 + r.val) (j : Fin 1024) :
    k0_pay1
      (k0_pay2 (iblk m c 2 t) (X0_3 m c t) (iblk m c 0 t) (iblk m c 1 t) (iblk m c 6 t) (iblk m c 7 t) (iblk m c 4 t) (iblk m c 8 t))
      (k0_pay3 (iblk m c 2 t) (X0_3 m c t) (iblk m c 0 t) (iblk m c 1 t) (iblk m c 6 t) (iblk m c 7 t) (iblk m c 4 t) (iblk m c 8 t) (iblk m c 9 t))
      (FloatOps.ofBits FTy.f32 0#32) (iblk m c 5 t) (iblk m c 10 t) (iblk m c 11 t) (ix2 r j) = result m c (ix2 R j) := by
  pointwise [k0_pay1, k0_pay3]
  simp only [pay_mix m c t r R hR, blk5 m c t r R hR, blk9, blk10, blk11, zero_sub]
  rfl

/-- The result array after the run holds the layer's output. -/
theorem final (c : Dev nD) : (dats m 0 c).arrAt 12 cfg0.N = result m c := by
  refine (dats m 0 c).arrAt_eq_of_covers 12 _ (by decide +kernel) fun t hf y => ?_
  have ht : t.val < 32 := N_0 ▸ t.isLt
  have h0 : (y 0).val < 512 := (y 0).isLt
  have key := pay_out m c t ⟨(y 0).val, h0⟩ ⟨t.val * 512 + (y 0).val, by omega⟩ rfl ⟨(y 1).val, (y 1).isLt⟩
  have e : ((cfg0.win 12).blk t).view.emb y
      = (ix2 (⟨t.val * 512 + (y 0).val, by omega⟩ : Fin 16384) (⟨(y 1).val, (y 1).isLt⟩ : Fin 1024)) := by
    blk_ext [idx_at t]
  blk_simp
  rw [after0_12]
  unfold outsAt0
  frame_out
  refine Eq.trans (congrArg _ ?_) (key.trans (congrArg (result m c) e.symm))
  exact (ix2_eta y).symm

/-! ## The claims -/

/-- The residual frame claims: both kernels' frames are the generated ones. -/
theorem frame_bits : Cert.quiescent_Kernel3 := fun m ρ _ => Cert.Kernel3.Gen.frame m ρ
theorem frame_ideal : Cert.quiescent_Kernel3Ideal := fun m ρ _ => Cert.Kernel3Ideal.Gen.frame m ρ

/-- The reference's frame: its run read at the arguments; it declares no semaphore. -/
theorem frame_ref : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- No operation was rewritten between the kernel and its idealized form. -/
theorem preserved : Cert.preserves_Kernel3_Kernel3Ideal := trivial

/-- From agreeing arguments the kernel and the reference both end at `out`. -/
theorem value : Cert.algebraic_Kernel3Ideal_Reference3Ideal := by
  intro m ρ m' ρ' _ hagree
  refine ⟨fun c => result m c, ?_, ?_⟩
  · exact (θ_run Cert.Kernel3Ideal.defs _ _).mono (fun _ h c => ⟨(h c).1.trans (final m c), (h c).2⟩)
      (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    obtain ⟨h0, h1, h2, h3, h4, h5, h6, h7, h8, h9⟩ := hagree c
    rw [Cert.Reference3Ideal.Read.val_main_v29_eq, h0, h1, h2, h3, h4, h5, h6, h7, h8, h9]
    funext i
    rw [← ix2_eta i]
    exact ref_out _ _ _ _ _ _ _ _ _ _ (i 0) (i 1)

end Cert.OutProj
-- ==== Proof.OutProjS.lean ====
/-
  The output projection of the second layer, sample batch (program Kernel5Ideal), against its reference
  (Reference5Ideal): one grid point takes all 256 tokens. The mathematics of an entry is that of Proof/OutMath.lean.
-/
module

public import proofs.«01_k».proof.Defs
public import proofs.«01_k».proof.Proof.Gen.Kernel5.Frame
public import proofs.«01_k».proof.Proof.Gen.Kernel5Ideal.Value
public import proofs.«01_k».proof.Proof.Gen.Reference5Ideal.Read
public import proofs.«01_k».proof.Proof.OutMath
public import Idealize.ShloMosaic.Lib.Pointwise
public import Idealize.ShloMosaic.Lib.Claim
public import Idealize.ShloMosaic.Lib.Quiescent
public import Idealize.ShloMosaic.Lib.Pipeline.ValueKit

@[expose] public section

set_option maxRecDepth 256

noncomputable section

namespace Cert.OutProjS

open Idealize.ShloMosaic Idealize.ShloMosaic.TcCoe Idealize.SL.Sem
open Cert.OutProj
open scoped BigOperators

variable (x0 : (⟨2, ![256, 1024]⟩ : Shape).Idx → EReal) (x1 : (⟨2, ![256, 256]⟩ : Shape).Idx → EReal)
  (x2 : (⟨2, ![256, 512]⟩ : Shape).Idx → EReal) (x3 : (⟨2, ![256, 3456]⟩ : Shape).Idx → EReal)
  (x4 : (⟨2, ![256, 256]⟩ : Shape).Idx → EReal) (x5 : (⟨2, ![512, 256]⟩ : Shape).Idx → EReal)
  (x6 x7 : (⟨2, ![1024, 1024]⟩ : Shape).Idx → EReal) (x8 : (⟨2, ![256, 1024]⟩ : Shape).Idx → EReal)
  (x9 : (⟨1, ![1024]⟩ : Shape).Idx → EReal)

/-- The row of token `R`'s embedding: the second layer's rows follow the first's. -/
abbrev row (R : Fin 256) : Fin 512 := ⟨256 + R.val, by omega⟩

/-! ## The reference computes it -/

section Ref
open Cert.Reference5Ideal.Read

/-- The reference's residual row is `mix`: the joined row's product is the three parts' products. -/
theorem ref_mix (R : Fin 256) (j : Fin 1024) :
    val_main_v5 (F := Ideal) x0 x1 x2 x3 x4 x6 (ix2 R j) = mix x0 x1 x2 x3 x4 x6 R j := by
  pointwise [val_main_v5, val_main_v4, val_main_v3, val_main_v2, val_main_v1, val_main_v0, val_main_call0_v5, val_main_call0_v4, val_main_call0_v3, val_main_call0_v2, val_main_call0_v1, val_main_call0_v0, val_main_call0_cst, val_main_call0_cst_0]
  rw [sum_parts, ← add_assoc, ← add_assoc]
  unfold mix sigm
  refine congrArg₂ (· + ·) (congrArg₂ (· + ·) (congrArg₂ (· + ·) rfl ?_) ?_) ?_ <;>
    refine Finset.sum_congr rfl fun k _ => ?_
  · have hk := k.isLt
    simp only [hk, dite_true]
  · have hk := k.isLt
    have a : ¬ 256 + k.val < 256 := by omega
    have e : 256 + k.val - 256 = k.val := by omega
    simp only [a, dite_false, e, hk, dite_true]
  · have hk := k.isLt
    have a : ¬ 768 + k.val < 256 := by omega
    have b : ¬ 768 + k.val - 256 < 512 := by omega
    have e : 768 + k.val - 256 - 512 = k.val := by omega
    simp only [a, dite_false, b, e]

/-- The reference's embedding product is `emb`. -/
theorem ref_emb (R : Fin 256) (j : Fin 1024) : val_main_v14 (F := Ideal) x5 x8 (ix2 R j) = emb x5 x8 (row R) j := by
  pointwise [val_main_v14, val_main_v13]
  unfold emb
  refine Finset.sum_congr rfl fun k _ => ?_
  blk_ext []

/-- The reference's result is `out`. -/
theorem ref_out (R : Fin 256) (j : Fin 1024) :
    val_main_v29 (F := Ideal) x0 x1 x2 x3 x4 x5 x6 x7 x8 x9 (ix2 R j) = out x0 x1 x2 x3 x4 x5 x6 x7 x8 x9 R (row R) j := by
  pointwise [val_main_v29, val_main_v28, val_main_v27, val_main_v26, val_main_v25, val_main_v24, val_main_v23, val_main_v22, val_main_v21, val_main_v20, val_main_v19, val_main_v18, val_main_v17, val_main_v16, val_main_v15, val_main_v12, val_main_v11, val_main_v10, val_main_v9, val_main_v8, val_main_v7, val_main_v6, val_main_cst, val_main_cst_0, val_main_cst_1, val_main_cst_2, val_main_cst_3]
  simp only [ref_mix, ref_emb]
  rfl

end Ref

/-! ## What one grid point of the kernel computes -/

open Cert.Kernel5Ideal Cert.Kernel5Ideal.Gen

variable (m : (ℓ : Loc nD τ sig) → Buf (Elt Ideal) ℓ)

/-- The block index of each window at each grid point. -/
theorem idx_at : ∀ t : Fin grid0.N, win0_0.index t = ![t.val, 0] ∧ win0_1.index t = ![t.val, 0] ∧ win0_2.index t = ![t.val, 0]
    ∧ win0_3.index t = ![t.val, 2] ∧ win0_4.index t = ![t.val, 0] ∧ win0_5.index t = ![1 + t.val, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![t.val, 0] := by
  decide +kernel

section Blocks
variable (c : Dev nD) (t : Fin cfg0.N) (r : Fin 256) (R : Fin 256) (hR : R.val = t.val * 256 + r.val)
include hR

theorem blk0 (k : Fin 1024) : iblk m c 0 t (ix2 r k) = m ((c : Thread nD τ).loc main_arg0) (ix2 R k) := by
  blk_ext [iblk, V, idx_at t]
theorem blk1 (k : Fin 256) : iblk m c 1 t (ix2 r k) = m ((c : Thread nD τ).loc main_arg1) (ix2 R k) := by
  blk_ext [iblk, V, idx_at t]
theorem blk2 (k : Fin 512) : iblk m c 2 t (ix2 r k) = m ((c : Thread nD τ).loc main_arg2) (ix2 R k) := by
  blk_ext [iblk, V, idx_at t]
theorem blk3 (k : Fin 512) : X0_3 m c t (ix2 r k) = m ((c : Thread nD τ).loc main_arg3) (ix2 R ⟨1024 + k.val, by omega⟩) := by
  unfold X0_3 Pipeline.Window.fill
  rw [dif_pos (moved0_3 t (ix2 r k))]
  blk_ext [iblk, V, idx_at t]
theorem blk4 (k : Fin 256) : iblk m c 4 t (ix2 r k) = m ((c : Thread nD τ).loc main_arg4) (ix2 R k) := by
  blk_ext [iblk, V, idx_at t]
theorem blk5 (k : Fin 256) : iblk m c 5 t (ix2 r k) = m ((c : Thread nD τ).loc main_arg5) (ix2 (row R) k) := by
  blk_ext [iblk, V, idx_at t]
end Blocks

section Weights
variable (c : Dev nD) (t : Fin cfg0.N) (j : Fin 1024)

theorem blk6 (k : Fin 256) : iblk m c 6 t (ix2 k j) = m ((c : Thread nD τ).loc main_arg6) (ix2 ⟨k.val, by omega⟩ j) := by
  have e : ((cfg0.win 6).blk t).view.emb (ix2 k j) = ix2 k j := by blk_ext [idx_at t]
  unfold iblk
  rw [View.read_apply, e]
  show V m c main_v1 (ix2 k j) = _
  entry_read
  pointwise
theorem blk7 (k : Fin 512) : iblk m c 7 t (ix2 k j) = m ((c : Thread nD τ).loc main_arg6) (ix2 ⟨256 + k.val, by omega⟩ j) := by
  have e : ((cfg0.win 7).blk t).view.emb (ix2 k j) = ix2 k j := by blk_ext [idx_at t]
  unfold iblk
  rw [View.read_apply, e]
  show V m c main_v3 (ix2 k j) = _
  entry_read
  pointwise
theorem blk8 (k : Fin 256) : iblk m c 8 t (ix2 k j) = m ((c : Thread nD τ).loc main_arg6) (ix2 ⟨768 + k.val, by omega⟩ j) := by
  have e : ((cfg0.win 8).blk t).view.emb (ix2 k j) = ix2 k j := by blk_ext [idx_at t]
  unfold iblk
  rw [View.read_apply, e]
  show V m c main_v5 (ix2 k j) = _
  entry_read
  pointwise
theorem blk9 (k : Fin 1024) : iblk m c 9 t (ix2 k j) = m ((c : Thread nD τ).loc main_arg7) (ix2 k j) := by
  have e : ((cfg0.win 9).blk t).view.emb (ix2 k j) = ix2 k j := by blk_ext [idx_at t]
  unfold iblk
  rw [View.read_apply, e]
  show V m c main_v6 (ix2 k j) = _
  entry_read
  pointwise
theorem blk10 (k : Fin 256) : iblk m c 10 t (ix2 k j) = m ((c : Thread nD τ).loc main_arg8) (ix2 k j) := by
  have e : ((cfg0.win 10).blk t).view.emb (ix2 k j) = ix2 k j := by blk_ext [idx_at t]
  unfold iblk
  rw [View.read_apply, e]
  show V m c main_v7 (ix2 k j) = _
  entry_read
  pointwise
theorem blk11 : iblk m c 11 t (ix2 0 j) = m ((c : Thread nD τ).loc main_arg9) (ix1 j) := by
  have e : ((cfg0.win 11).blk t).view.emb (ix2 0 j) = ix2 0 j := by blk_ext [idx_at t]
  unfold iblk
  rw [View.read_apply, e]
  show V m c main_v8 (ix2 0 j) = _
  entry_read
  pointwise
end Weights

/-- Device `c`'s layer output as a function of its launched arguments. -/
abbrev result (c : Dev nD) : Buf (Elt Ideal) ((c : Thread nD τ).loc main_v9) := fun i =>
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (i 0) (row (i 0)) (i 1)

/-- The residual part of a point's block is `mix` of the block's tokens. -/
theorem pay_mix (c : Dev nD) (t : Fin cfg0.N) (r : Fin 256) (R : Fin 256) (hR : R.val = t.val * 256 + r.val) (j : Fin 1024) :
    k0_pay2 (iblk m c 2 t) (X0_3 m c t) (iblk m c 0 t) (iblk m c 1 t) (iblk m c 6 t) (iblk m c 7 t) (iblk m c 4 t) (iblk m c 8 t) (ix2 r j)
      = mix (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg6)) R j := by
  pointwise [k0_pay2]
  simp only [blk0 m c t r R hR, blk1 m c t r R hR, blk2 m c t r R hR, blk3 m c t r R hR, blk4 m c t r R hR, blk6, blk7, blk8, zero_sub]
  rfl

/-- What a point writes at `(r, j)` is the layer's output of its token. -/
theorem pay_out (c : Dev nD) (t : Fin cfg0.N) (r : Fin 256) (R : Fin 256) (hR : R.val = t.val * 256 + r.val) (j : Fin 1024) :
    k0_pay1
      (k0_pay2 (iblk m c 2 t) (X0_3 m c t) (iblk m c 0 t) (iblk m c 1 t) (iblk m c 6 t) (iblk m c 7 t) (iblk m c 4 t) (iblk m c 8 t))
      (k0_pay3 (iblk m c 2 t) (X0_3 m c t) (iblk m c 0 t) (iblk m c 1 t) (iblk m c 6 t) (iblk m c 7 t) (iblk m c 4 t) (iblk m c 8 t) (iblk m c 9 t))
      (FloatOps.ofBits FTy.f32 0#32) (iblk m c 5 t) (iblk m c 10 t) (iblk m c 11 t) (ix2 r j) = result m c (ix2 R j) := by
  pointwise [k0_pay1, k0_pay3]
  simp only [pay_mix m c t r R hR, blk5 m c t r R hR, blk9, blk10, blk11, zero_sub]
  rfl

/-- The result array after the run holds the layer's output. -/
theorem final (c : Dev nD) : (dats m 0 c).arrAt 12 cfg0.N = result m c := by
  refine (dats m 0 c).arrAt_eq_of_covers 12 _ (by decide +kernel) fun t hf y => ?_
  have ht : t.val < 1 := N_0 ▸ t.isLt
  have h0 : (y 0).val < 256 := (y 0).isLt
  have key := pay_out m c t ⟨(y 0).val, h0⟩ ⟨t.val * 256 + (y 0).val, by omega⟩ rfl ⟨(y 1).val, (y 1).isLt⟩
  have e : ((cfg0.win 12).blk t).view.emb y
      = (ix2 (⟨t.val * 256 + (y 0).val, by omega⟩ : Fin 256) (⟨(y 1).val, (y 1).isLt⟩ : Fin 1024)) := by
    blk_ext [idx_at t]
  blk_simp
  rw [after0_12]
  unfold outsAt0
  frame_out
  refine Eq.trans (congrArg _ ?_) (key.trans (congrArg (result m c) e.symm))
  exact (ix2_eta y).symm

/-! ## The claims -/

/-- The residual frame claims: both kernels' frames are the generated ones. -/
theorem frame_bits : Cert.quiescent_Kernel5 := fun m ρ _ => Cert.Kernel5.Gen.frame m ρ
theorem frame_ideal : Cert.quiescent_Kernel5Ideal := fun m ρ _ => Cert.Kernel5Ideal.Gen.frame m ρ

/-- The reference's frame: its run read at the arguments; it declares no semaphore. -/
theorem frame_ref : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- No operation was rewritten between the kernel and its idealized form. -/
theorem preserved : Cert.preserves_Kernel5_Kernel5Ideal := trivial

/-- From agreeing arguments the kernel and the reference both end at `out`. -/
theorem value : Cert.algebraic_Kernel5Ideal_Reference5Ideal := by
  intro m ρ m' ρ' _ hagree
  refine ⟨fun c => result m c, ?_, ?_⟩
  · exact (θ_run Cert.Kernel5Ideal.defs _ _).mono (fun _ h c => ⟨(h c).1.trans (final m c), (h c).2⟩)
      (Cert.Kernel5Ideal.Value.run_blocks (F := Ideal) m ρ)
  · refine (θ_run Cert.Reference5Ideal.defs _ _).mono (fun _ h c => ⟨(h c).1.trans ?_, (h c).2⟩)
      (Cert.Reference5Ideal.Value.run (F := Ideal) m' ρ')
    obtain ⟨h0, h1, h2, h3, h4, h5, h6, h7, h8, h9⟩ := hagree c
    rw [Cert.Reference5Ideal.Read.val_main_v29_eq, h0, h1, h2, h3, h4, h5, h6, h7, h8, h9]
    funext i
    rw [← ix2_eta i]
    exact ref_out _ _ _ _ _ _ _ _ _ _ (i 0) (i 1)

end Cert.OutProjS
-- ==== Proof.InWide.lean ====
/-
  The input projection's weight, whose columns the host reorders, and the wide product with it, of either batch.
-/
module

public import proofs.«01_k».proof.Proof.Gen.Kernel2Ideal
public import proofs.«01_k».proof.Proof.InProjRef
public import Idealize.ShloMosaic.Lib.Pointwise
public import Idealize.ShloMosaic.Lib.IdealHost
public import Idealize.ShloMosaic.Lib.Pipeline.ValueKit

@[expose] public section

set_option maxRecDepth 16384

noncomputable section

namespace Cert.InProj

open Idealize.ShloMosaic Idealize.ShloMosaic.TcCoe Idealize.SL.Sem
open scoped BigOperators
open Cert.Kernel2Ideal Cert.Kernel2Ideal.Gen

/-- The reordered weight: the weight's runs of columns joined, 120 zero columns at the end. -/
abbrev weightOf (w : (⟨2, ![1024, 3336]⟩ : Shape).Idx → EReal) : (⟨2, ![1024, 3456]⟩ : Shape).Idx → EReal :=
  concatenate S1024x3456 1 [⟨S1024x256, extractStridedSlice S1024x256 ![0, 0] w slices_S1024x3336_S1024x256_0_0⟩, ⟨S1024x256, extractStridedSlice S1024x256 ![0, 256] w slices_S1024x3336_S1024x256_0_256⟩, ⟨S1024x512, extractStridedSlice S1024x512 ![0, 512] w slices_S1024x3336_S1024x512_0_512⟩, ⟨S1024x512, extractStridedSlice S1024x512 ![0, 1536] w slices_S1024x3336_S1024x512_0_1536⟩, ⟨S1024x256, extractStridedSlice S1024x256 ![0, 1024] w slices_S1024x3336_S1024x256_0_1024⟩, ⟨S1024x256, extractStridedSlice S1024x256 ![0, 1280] w slices_S1024x3336_S1024x256_0_1280⟩, ⟨S1024x256, extractStridedSlice S1024x256 ![0, 2048] w slices_S1024x3336_S1024x256_0_2048⟩, ⟨S1024x256, extractStridedSlice S1024x256 ![0, 2304] w slices_S1024x3336_S1024x256_0_2304⟩, ⟨S1024x256, extractStridedSlice S1024x256 ![0, 2560] w slices_S1024x3336_S1024x256_0_2560⟩, ⟨S1024x256, extractStridedSlice S1024x256 ![0, 2824] w slices_S1024x3336_S1024x256_0_2824⟩, ⟨S1024x256, extractStridedSlice S1024x256 ![0, 3080] w slices_S1024x3336_S1024x256_0_3080⟩, ⟨S1024x4, extractStridedSlice S1024x4 ![0, 2816] w slices_S1024x3336_S1024x4_0_2816⟩, ⟨S1024x4, extractStridedSlice S1024x4 ![0, 2820] w slices_S1024x3336_S1024x4_0_2820⟩, ⟨S1024x120, broadcastInDim S1024x120 ![] bcast_S_S1024x120 (constant (F := Ideal) S_ .f32 0x00000000#32)⟩]
    concatenates_S1024x256_S1024x256_S1024x512_S1024x512_S1024x256_S1024x256_S1024x256_S1024x256_S1024x256_S1024x256_S1024x256_S1024x4_S1024x4_S1024x120_S1024x3456_d1

variable {M : ℕ} (x0 : (⟨2, ![M, 1024]⟩ : Shape).Idx → EReal) (x1 : (⟨1, ![1024]⟩ : Shape).Idx → EReal)
  (w : (⟨2, ![1024, 3336]⟩ : Shape).Idx → EReal)

/-- The wide product before head normalisation, at token `R` and column `j`. -/
def wideOf (R : Fin M) (j : Fin 3456) : EReal := ∑ k : Fin 1024, xn x0 x1 R k * weightOf w (ix2 k j)

/-! The wide product, one run of columns at a time. -/
theorem wide0 (R : Fin M) (i : Fin 256) (j : Fin 3456) (hj : j.val = 0 + i.val) :
    wideOf x0 x1 w R j = proj x0 x1 w R ⟨0 + i.val, by omega⟩ := by
  refine Finset.sum_congr rfl fun k _ => congrArg _ ?_
  refine (joined _ _ 0 (by simp) _ rfl 0 rfl k i j hj).trans ?_
  pointwise
theorem wide1 (R : Fin M) (i : Fin 256) (j : Fin 3456) (hj : j.val = 256 + i.val) :
    wideOf x0 x1 w R j = proj x0 x1 w R ⟨256 + i.val, by omega⟩ := by
  refine Finset.sum_congr rfl fun k _ => congrArg _ ?_
  refine (joined _ _ 1 (by simp) _ rfl 256 rfl k i j hj).trans ?_
  pointwise
theorem wide2 (R : Fin M) (i : Fin 512) (j : Fin 3456) (hj : j.val = 512 + i.val) :
    wideOf x0 x1 w R j = proj x0 x1 w R ⟨512 + i.val, by omega⟩ := by
  refine Finset.sum_congr rfl fun k _ => congrArg _ ?_
  refine (joined _ _ 2 (by simp) _ rfl 512 rfl k i j hj).trans ?_
  pointwise
theorem wide3 (R : Fin M) (i : Fin 512) (j : Fin 3456) (hj : j.val = 1024 + i.val) :
    wideOf x0 x1 w R j = proj x0 x1 w R ⟨1536 + i.val, by omega⟩ := by
  refine Finset.sum_congr rfl fun k _ => congrArg _ ?_
  refine (joined _ _ 3 (by simp) _ rfl 1024 rfl k i j hj).trans ?_
  pointwise
theorem wide4 (R : Fin M) (i : Fin 256) (j : Fin 3456) (hj : j.val = 1536 + i.val) :
    wideOf x0 x1 w R j = proj x0 x1 w R ⟨1024 + i.val, by omega⟩ := by
  refine Finset.sum_congr rfl fun k _ => congrArg _ ?_
  refine (joined _ _ 4 (by simp) _ rfl 1536 rfl k i j hj).trans ?_
  pointwise
theorem wide5 (R : Fin M) (i : Fin 256) (j : Fin 3456) (hj : j.val = 1792 + i.val) :
    wideOf x0 x1 w R j = proj x0 x1 w R ⟨1280 + i.val, by omega⟩ := by
  refine Finset.sum_congr rfl fun k _ => congrArg _ ?_
  refine (joined _ _ 5 (by simp) _ rfl 1792 rfl k i j hj).trans ?_
  pointwise
theorem wide6 (R : Fin M) (i : Fin 256) (j : Fin 3456) (hj : j.val = 2048 + i.val) :
    wideOf x0 x1 w R j = proj x0 x1 w R ⟨2048 + i.val, by omega⟩ := by
  refine Finset.sum_congr rfl fun k _ => congrArg _ ?_
  refine (joined _ _ 6 (by simp) _ rfl 2048 rfl k i j hj).trans ?_
  pointwise
theorem wide7 (R : Fin M) (i : Fin 256) (j : Fin 3456) (hj : j.val = 2304 + i.val) :
    wideOf x0 x1 w R j = proj x0 x1 w R ⟨2304 + i.val, by omega⟩ := by
  refine Finset.sum_congr rfl fun k _ => congrArg _ ?_
  refine (joined _ _ 7 (by simp) _ rfl 2304 rfl k i j hj).trans ?_
  pointwise
theorem wide8 (R : Fin M) (i : Fin 256) (j : Fin 3456) (hj : j.val = 2560 + i.val) :
    wideOf x0 x1 w R j = proj x0 x1 w R ⟨2560 + i.val, by omega⟩ := by
  refine Finset.sum_congr rfl fun k _ => congrArg _ ?_
  refine (joined _ _ 8 (by simp) _ rfl 2560 rfl k i j hj).trans ?_
  pointwise
theorem wide9 (R : Fin M) (i : Fin 256) (j : Fin 3456) (hj : j.val = 2816 + i.val) :
    wideOf x0 x1 w R j = proj x0 x1 w R ⟨2824 + i.val, by omega⟩ := by
  refine Finset.sum_congr rfl fun k _ => congrArg _ ?_
  refine (joined _ _ 9 (by simp) _ rfl 2816 rfl k i j hj).trans ?_
  pointwise
theorem wide10 (R : Fin M) (i : Fin 256) (j : Fin 3456) (hj : j.val = 3072 + i.val) :
    wideOf x0 x1 w R j = proj x0 x1 w R ⟨3080 + i.val, by omega⟩ := by
  refine Finset.sum_congr rfl fun k _ => congrArg _ ?_
  refine (joined _ _ 10 (by simp) _ rfl 3072 rfl k i j hj).trans ?_
  pointwise
theorem wide11 (R : Fin M) (i : Fin 4) (j : Fin 3456) (hj : j.val = 3328 + i.val) :
    wideOf x0 x1 w R j = proj x0 x1 w R ⟨2816 + i.val, by omega⟩ := by
  refine Finset.sum_congr rfl fun k _ => congrArg _ ?_
  refine (joined _ _ 11 (by simp) _ rfl 3328 rfl k i j hj).trans ?_
  pointwise
theorem wide12 (R : Fin M) (i : Fin 4) (j : Fin 3456) (hj : j.val = 3332 + i.val) :
    wideOf x0 x1 w R j = proj x0 x1 w R ⟨2820 + i.val, by omega⟩ := by
  refine Finset.sum_congr rfl fun k _ => congrArg _ ?_
  refine (joined _ _ 12 (by simp) _ rfl 3332 rfl k i j hj).trans ?_
  pointwise
set_option maxHeartbeats 2000000 in
theorem wide13 (R : Fin M) (i : Fin 120) (j : Fin 3456) (hj : j.val = 3336 + i.val) : wideOf x0 x1 w R j = 0 := by
  refine Finset.sum_eq_zero fun k _ => ?_
  have e : weightOf w (ix2 k j) = 0 := by
    refine (joined _ _ 13 (by simp) _ rfl 3336 rfl k i j hj).trans ?_
    pointwise
  rw [e, mul_zero]

end Cert.InProj
-- ==== Proof.InProjS.lean ====
/-
  The input projection, sample batch (program Kernel4Ideal): its keys and values against the reference's
  (Reference4Ideal). One grid point takes all 256 tokens; the entries are those of Proof/InProjRef.lean and the weight
  and the wide product those of Proof/InWide.lean.
-/
module

public import proofs.«01_k».proof.Defs
public import proofs.«01_k».proof.Proof.Gen.Kernel4.Frame
public import proofs.«01_k».proof.Proof.Gen.Kernel4Ideal.Value
public import proofs.«01_k».proof.Proof.InWide
public import proofs.«01_k».proof.Proof.Gen.Reference4Ideal.Read
public import Idealize.ShloMosaic.Lib.Pointwise
public import Idealize.ShloMosaic.Lib.IdealHost
public import Idealize.ShloMosaic.Lib.Claim
public import Idealize.ShloMosaic.Lib.Quiescent
public import Idealize.ShloMosaic.Lib.Pipeline.ValueKit

@[expose] public section

set_option maxRecDepth 16384

noncomputable section

namespace Cert.InProjS

open Idealize.ShloMosaic Idealize.ShloMosaic.TcCoe Idealize.SL.Sem
open scoped BigOperators
open Cert.Kernel4Ideal Cert.Kernel4Ideal.Gen
open Cert.InProj (xn proj headNorm key weightOf wideOf wide4 wide5 head_sum mean64)

variable (m : (ℓ : Loc nD τ sig) → Buf (Elt Ideal) ℓ) (c : Dev nD)

/-- The five arguments on device `c`. -/
abbrev a0 : (⟨2, ![256, 1024]⟩ : Shape).Idx → EReal := m ((c : Thread nD τ).loc main_arg0)
abbrev a1 : (⟨1, ![1024]⟩ : Shape).Idx → EReal := m ((c : Thread nD τ).loc main_arg1)
abbrev a2 : (⟨2, ![1024, 3336]⟩ : Shape).Idx → EReal := m ((c : Thread nD τ).loc main_arg2)
abbrev a3 : (⟨1, ![64]⟩ : Shape).Idx → EReal := m ((c : Thread nD τ).loc main_arg3)
abbrev a4 : (⟨1, ![64]⟩ : Shape).Idx → EReal := m ((c : Thread nD τ).loc main_arg4)

/-! ## The operands prepared before the call -/

theorem norm_row (k : Fin 1024) : V m c main_v16 (ix2 0 k) = a1 m c (ix1 k) := by
  entry_read
  pointwise
theorem key_gain (j : Fin 256) : V m c main_v24 (ix2 0 j) = a4 m c (ix1 ⟨j.val % 64, Nat.mod_lt _ (by decide)⟩) := by
  entry_read
  pointwise
/-- The comparison that builds the head table, on head numbers. -/
theorem same_head : ∀ p q : Fin 8, IntOp.cmpi CmpIPredicate.eq (IntOp.addi (BitVec.ofNat 32 p.val) 0#32) (BitVec.ofNat 32 q.val)
    = if p.val = q.val then 1#1 else 0#1 := by decide
/-- The head table: one where row and column lie in the same head, zero elsewhere. -/
theorem heads (a b : Fin 512) : V m c main_v34 (ix2 a b) = if a.val / 64 = b.val / 64 then (1 : EReal) else 0 := by
  entry_read
  pointwise
  rw [same_head ⟨a.val / 64, by omega⟩ ⟨b.val / 64, by omega⟩]
  show _ = if a.val / 64 = b.val / 64 then (1 : EReal) else 0
  split
  · show (((1#1 : BitVec 1).toNat : ℝ) : EReal) = 1
    norm_num
  · show (((0#1 : BitVec 1).toNat : ℝ) : EReal) = 0
    norm_num

/-- The reordered weight on device `c`. -/
abbrev weight : (⟨2, ![1024, 3456]⟩ : Shape).Idx → EReal := weightOf (a2 m c)

theorem weight_read : V m c main_v15 = weight m c := rfl

/-- The wide product before head normalisation, at token `R` and column `j`. -/
abbrev wide (R : Fin 256) (j : Fin 3456) : EReal := wideOf (a0 m c) (a1 m c) (a2 m c) R j

/-! ## One grid point -/

theorem idx_at : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] := by
  decide +kernel

section Blocks
variable (t : Fin cfg0.N)

theorem blk0 (r R : Fin 256) (hR : R.val = t.val * 256 + r.val) (k : Fin 1024) : iblk m c 0 t (ix2 r k) = a0 m c (ix2 R k) := by
  blk_ext [iblk, V, idx_at t]
theorem blk1 (k : Fin 1024) : iblk m c 1 t (ix2 0 k) = a1 m c (ix1 k) := by
  have e : ((cfg0.win 1).blk t).view.emb (ix2 0 k) = ix2 0 k := by blk_ext [idx_at t]
  unfold iblk
  rw [View.read_apply, e]
  exact norm_row m c k
theorem blk2 (k : Fin 1024) (j : Fin 3456) : iblk m c 2 t (ix2 k j) = weight m c (ix2 k j) := by
  have e : ((cfg0.win 2).blk t).view.emb (ix2 k j) = ix2 k j := by blk_ext [idx_at t]
  unfold iblk
  rw [View.read_apply, e]
  exact congrFun (weight_read m c) (ix2 k j)
theorem blk4 (j : Fin 256) : iblk m c 4 t (ix2 0 j) = a4 m c (ix1 ⟨j.val % 64, Nat.mod_lt _ (by decide)⟩) := by
  have e : ((cfg0.win 4).blk t).view.emb (ix2 0 j) = ix2 0 j := by blk_ext [idx_at t]
  unfold iblk
  rw [View.read_apply, e]
  exact key_gain m c j
theorem blk5 (a b : Fin 512) : iblk m c 5 t (ix2 a b) = if a.val / 64 = b.val / 64 then (1 : EReal) else 0 := by
  have e : ((cfg0.win 5).blk t).view.emb (ix2 a b) = ix2 a b := by blk_ext [idx_at t]
  unfold iblk
  rw [View.read_apply, e]
  exact heads m c a b

variable (r R : Fin 256) (hR : R.val = t.val * 256 + r.val)
include hR

theorem pay_wide (j : Fin 3456) : k0_pay3 (iblk m c 0 t) (iblk m c 1 t) (iblk m c 2 t) (ix2 r j) = wide m c R j := by
  pointwise [k0_pay3]
  simp only [blk0 m c t r R hR, blk1, blk2]
  rfl

theorem pay_key (i : Fin 256) :
    k0_pay1 (k0_pay3 (iblk m c 0 t) (iblk m c 1 t) (iblk m c 2 t)) (k0_pay4 (iblk m c 5 t)) (iblk m c 4 t) (ix2 r i)
      = key (a0 m c) (a1 m c) (a2 m c) (a4 m c) R i := by
  pointwise [k0_pay1, k0_pay4]
  have w (x : Fin 256) : k0_pay3 (iblk m c 0 t) (iblk m c 1 t) (iblk m c 2 t) (ix2 r ⟨1536 + x.val, by omega⟩)
      = proj (a0 m c) (a1 m c) (a2 m c) R ⟨1024 + x.val, by omega⟩ :=
    (pay_wide m c t r R hR _).trans (wide4 _ _ _ R x _ rfl)
  simp only [w, blk4, blk5]
  rw [head_sum (n := 4) rfl, mean64]
  rfl

theorem pay_val (i : Fin 256) : k0_pay2 (k0_pay3 (iblk m c 0 t) (iblk m c 1 t) (iblk m c 2 t)) (ix2 r i)
      = proj (a0 m c) (a1 m c) (a2 m c) R ⟨1280 + i.val, by omega⟩ := by
  pointwise [k0_pay2]
  exact (pay_wide m c t r R hR _).trans (wide5 _ _ _ R i _ rfl)

end Blocks

/-! ## The reference -/

section Arrays
open Cert.Reference4Ideal.Read

section Ref
variable (x0 : (⟨2, ![256, 1024]⟩ : Shape).Idx → EReal) (x1 : (⟨1, ![1024]⟩ : Shape).Idx → EReal)
  (x2 : (⟨2, ![1024, 3336]⟩ : Shape).Idx → EReal) (x4 : (⟨1, ![64]⟩ : Shape).Idx → EReal)

theorem ref_proj (R : Fin 256) (s : Fin 3336) : val_main_v13 (F := Ideal) x0 x1 x2 (ix2 R s) = proj x0 x1 x2 R s := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem ref_key (R j : Fin 256) : val_main_v29 (F := Ideal) x0 x1 x2 x4 (ix2 R j) = key x0 x1 x2 x4 R j := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_cst_2, val_main_cst_3, val_main_cst_4]
  simp only [ref_proj]
  rfl

theorem ref_val (R j : Fin 256) : val_main_v30 (F := Ideal) x0 x1 x2 (ix2 R j) = proj x0 x1 x2 R ⟨1280 + j.val, by omega⟩ := by
  pointwise [val_main_v30]
  rw [ref_proj]
end Ref

/-! ## The result arrays -/

/-- The reference's two results at device `c`'s arguments. -/
abbrev outK : (⟨2, ![256, 256]⟩ : Shape).Idx → EReal := val_main_v29 (F := Ideal) (a0 m c) (a1 m c) (a2 m c) (a4 m c)
abbrev outV : (⟨2, ![256, 256]⟩ : Shape).Idx → EReal := val_main_v30 (F := Ideal) (a0 m c) (a1 m c) (a2 m c)

theorem final7 : (dats m 0 c).arrAt 7 cfg0.N = outK m c := by
  refine (dats m 0 c).arrAt_eq_of_covers 7 _ (by decide +kernel) fun t hf y => ?_
  have ht : t.val < 1 := N_0 ▸ t.isLt
  have h0 : (y 0).val < 256 := (y 0).isLt
  have key := pay_key m c t ⟨(y 0).val, h0⟩ ⟨t.val * 256 + (y 0).val, by omega⟩ rfl ⟨(y 1).val, (y 1).isLt⟩
  have e : ((cfg0.win 7).blk t).view.emb y
      = (ix2 (⟨t.val * 256 + (y 0).val, by omega⟩ : Fin 256) (⟨(y 1).val, (y 1).isLt⟩ : Fin 256)) := by
    blk_ext [idx_at t]
  blk_simp
  rw [after0_7]
  unfold outsAt0
  frame_out
  refine Eq.trans (congrArg _ (ix2_eta y).symm) (key.trans ?_)
  exact (ref_key _ _ _ _ _ _).symm.trans (congrArg (outK m c) e.symm)

theorem final8 : (dats m 0 c).arrAt 8 cfg0.N = outV m c := by
  refine (dats m 0 c).arrAt_eq_of_covers 8 _ (by decide +kernel) fun t hf y => ?_
  have ht : t.val < 1 := N_0 ▸ t.isLt
  have h0 : (y 0).val < 256 := (y 0).isLt
  have key := pay_val m c t ⟨(y 0).val, h0⟩ ⟨t.val * 256 + (y 0).val, by omega⟩ rfl ⟨(y 1).val, (y 1).isLt⟩
  have e : ((cfg0.win 8).blk t).view.emb y
      = (ix2 (⟨t.val * 256 + (y 0).val, by omega⟩ : Fin 256) (⟨(y 1).val, (y 1).isLt⟩ : Fin 256)) := by
    blk_ext [idx_at t]
  blk_simp
  rw [after0_8]
  unfold outsAt0
  frame_out
  refine Eq.trans (congrArg _ (ix2_eta y).symm) (key.trans ?_)
  exact (ref_val _ _ _ _ _).symm.trans (congrArg (outV m c) e.symm)

end Arrays

/-! ## The claims -/

/-- Both kernels' frames are the generated ones. -/
theorem frame_bits : Cert.quiescent_Kernel4 := fun m ρ _ => Cert.Kernel4.Gen.frame m ρ
theorem frame_ideal : Cert.quiescent_Kernel4Ideal := fun m ρ _ => Cert.Kernel4Ideal.Gen.frame m ρ

/-- The reference's frame: its run read at the arguments; it declares no semaphore. -/
theorem frame_ref : Cert.quiescent_Reference4Ideal := fun m ρ _ =>
  (θ_run Cert.Reference4Ideal.defs _ _).mono
    (fun r h => ⟨fun c => (h c).2.2, Idealize.ShloMosaic.sem_eq_zero_of_no_sems (by decide) r.2⟩)
    (Cert.Reference4Ideal.Value.run (F := Ideal) m ρ)

/-- No operation was rewritten between the kernel and its idealized form. -/
theorem preserved : Cert.preserves_Kernel4_Kernel4Ideal := trivial

/-- From agreeing arguments the kernel's two result arrays end at the reference's. -/
theorem value : Cert.algebraic_Kernel4Ideal_Reference4Ideal := by
  intro m ρ m' ρ' _ hagree
  refine ⟨fun c => outK m c, fun c => outV m c, ?_, ?_⟩
  · exact (θ_run Cert.Kernel4Ideal.defs _ _).mono (fun _ h c =>
      ⟨(h c).2.1.trans (final7 m c), (h c).2.2.1.trans (final8 m c), (h c).2.2.2⟩)
      (Cert.Kernel4Ideal.Value.run_blocks (F := Ideal) m ρ)
  · refine (θ_run Cert.Reference4Ideal.defs _ _).mono (fun _ h c => ?_)
      (Cert.Reference4Ideal.Value.run (F := Ideal) m' ρ')
    obtain ⟨h0, h1, h2, h3, h4⟩ := hagree c
    obtain ⟨r0, r1, rest⟩ := h c
    refine ⟨r0.trans ?_, r1.trans ?_, rest⟩
    · rw [Cert.Reference4Ideal.Read.val_main_v29_eq, h0, h1, h2, h4]
    · rw [Cert.Reference4Ideal.Read.val_main_v30_eq, h0, h1, h2]

end Cert.InProjS
-- ==== Proof.InProj.lean ====
/-
  The input projection (program Kernel2Ideal): what a grid point writes, block by block, and the claims.
-/
module

public import proofs.«01_k».proof.Defs
public import proofs.«01_k».proof.Proof.Gen.Kernel2.Frame
public import proofs.«01_k».proof.Proof.Gen.Kernel2Ideal.Value
public import proofs.«01_k».proof.Proof.InWide
public import Idealize.ShloMosaic.Lib.Pointwise
public import Idealize.ShloMosaic.Lib.IdealHost
public import Idealize.ShloMosaic.Lib.Claim
public import Idealize.ShloMosaic.Lib.Quiescent
public import Idealize.ShloMosaic.Lib.Pipeline.ValueKit

@[expose] public section

set_option maxRecDepth 16384

noncomputable section

namespace Cert.InProj

open Idealize.ShloMosaic Idealize.ShloMosaic.TcCoe Idealize.SL.Sem
open scoped BigOperators
open Cert.Kernel2Ideal Cert.Kernel2Ideal.Gen

variable (m : (ℓ : Loc nD τ sig) → Buf (Elt Ideal) ℓ) (c : Dev nD)

/-- The five arguments on device `c`. -/
abbrev a0 : (⟨2, ![16384, 1024]⟩ : Shape).Idx → EReal := m ((c : Thread nD τ).loc main_arg0)
abbrev a1 : (⟨1, ![1024]⟩ : Shape).Idx → EReal := m ((c : Thread nD τ).loc main_arg1)
abbrev a2 : (⟨2, ![1024, 3336]⟩ : Shape).Idx → EReal := m ((c : Thread nD τ).loc main_arg2)
abbrev a3 : (⟨1, ![64]⟩ : Shape).Idx → EReal := m ((c : Thread nD τ).loc main_arg3)
abbrev a4 : (⟨1, ![64]⟩ : Shape).Idx → EReal := m ((c : Thread nD τ).loc main_arg4)

/-! ## The operands prepared before the call -/

theorem norm_row (k : Fin 1024) : V m c main_v16 (ix2 0 k) = a1 m c (ix1 k) := by
  entry_read
  pointwise
theorem query_gain (j : Fin 512) : V m c main_v20 (ix2 0 j) = a3 m c (ix1 ⟨j.val % 64, Nat.mod_lt _ (by decide)⟩) := by
  entry_read
  pointwise
theorem key_gain (j : Fin 256) : V m c main_v24 (ix2 0 j) = a4 m c (ix1 ⟨j.val % 64, Nat.mod_lt _ (by decide)⟩) := by
  entry_read
  pointwise
/-- The comparison that builds the head table, on head numbers. -/
theorem same_head : ∀ p q : Fin 8, IntOp.cmpi CmpIPredicate.eq (IntOp.addi (BitVec.ofNat 32 p.val) 0#32) (BitVec.ofNat 32 q.val)
    = if p.val = q.val then 1#1 else 0#1 := by decide
/-- The head table: one where row and column lie in the same head, zero elsewhere. -/
theorem heads (a b : Fin 512) : V m c main_v34 (ix2 a b) = if a.val / 64 = b.val / 64 then (1 : EReal) else 0 := by
  entry_read
  pointwise
  rw [same_head ⟨a.val / 64, by omega⟩ ⟨b.val / 64, by omega⟩]
  show _ = if a.val / 64 = b.val / 64 then (1 : EReal) else 0
  split
  · show (((1#1 : BitVec 1).toNat : ℝ) : EReal) = 1
    norm_num
  · show (((0#1 : BitVec 1).toNat : ℝ) : EReal) = 0
    norm_num

/-- The reordered weight on device `c`. -/
abbrev weight : (⟨2, ![1024, 3456]⟩ : Shape).Idx → EReal := weightOf (a2 m c)

theorem weight_read : V m c main_v15 = weight m c := rfl

/-- The wide product before head normalisation, at token `R` and column `j`. -/
abbrev wide (R : Fin 16384) (j : Fin 3456) : EReal := wideOf (a0 m c) (a1 m c) (a2 m c) R j

/-! ## One grid point -/

theorem idx_at : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0]
    ∧ win0_9.index t = ![t.val / 16, 0, t.val % 16] ∧ win0_10.index t = ![t.val / 16, 0, t.val % 16] := by
  decide +kernel

section Blocks
variable (t : Fin cfg0.N)

theorem blk0 (r : Fin 512) (R : Fin 16384) (hR : R.val = t.val * 512 + r.val) (k : Fin 1024) : iblk m c 0 t (ix2 r k) = a0 m c (ix2 R k) := by
  blk_ext [iblk, V, idx_at t]
theorem blk1 (k : Fin 1024) : iblk m c 1 t (ix2 0 k) = a1 m c (ix1 k) := by
  have e : ((cfg0.win 1).blk t).view.emb (ix2 0 k) = ix2 0 k := by blk_ext [idx_at t]
  unfold iblk
  rw [View.read_apply, e]
  exact norm_row m c k
theorem blk2 (k : Fin 1024) (j : Fin 3456) : iblk m c 2 t (ix2 k j) = weight m c (ix2 k j) := by
  have e : ((cfg0.win 2).blk t).view.emb (ix2 k j) = ix2 k j := by blk_ext [idx_at t]
  unfold iblk
  rw [View.read_apply, e]
  exact congrFun (weight_read m c) (ix2 k j)
theorem blk3 (j : Fin 512) : iblk m c 3 t (ix2 0 j) = a3 m c (ix1 ⟨j.val % 64, Nat.mod_lt _ (by decide)⟩) := by
  have e : ((cfg0.win 3).blk t).view.emb (ix2 0 j) = ix2 0 j := by blk_ext [idx_at t]
  unfold iblk
  rw [View.read_apply, e]
  exact query_gain m c j
theorem blk4 (j : Fin 256) : iblk m c 4 t (ix2 0 j) = a4 m c (ix1 ⟨j.val % 64, Nat.mod_lt _ (by decide)⟩) := by
  have e : ((cfg0.win 4).blk t).view.emb (ix2 0 j) = ix2 0 j := by blk_ext [idx_at t]
  unfold iblk
  rw [View.read_apply, e]
  exact key_gain m c j
theorem blk5 (a b : Fin 512) : iblk m c 5 t (ix2 a b) = if a.val / 64 = b.val / 64 then (1 : EReal) else 0 := by
  have e : ((cfg0.win 5).blk t).view.emb (ix2 a b) = ix2 a b := by blk_ext [idx_at t]
  unfold iblk
  rw [View.read_apply, e]
  exact heads m c a b

variable (r : Fin 512) (R : Fin 16384) (hR : R.val = t.val * 512 + r.val)
include hR

theorem pay_wide (j : Fin 3456) : k0_pay5 (iblk m c 0 t) (iblk m c 1 t) (iblk m c 2 t) (ix2 r j) = wide m c R j := by
  pointwise [k0_pay5]
  simp only [blk0 m c t r R hR, blk1, blk2]
  rfl

theorem pay_key (i : Fin 256) :
    k0_pay1 (k0_pay5 (iblk m c 0 t) (iblk m c 1 t) (iblk m c 2 t)) (k0_pay6 (iblk m c 5 t)) (iblk m c 4 t) (ix2 r i)
      = key (a0 m c) (a1 m c) (a2 m c) (a4 m c) R i := by
  pointwise [k0_pay1, k0_pay6]
  have w (x : Fin 256) : k0_pay5 (iblk m c 0 t) (iblk m c 1 t) (iblk m c 2 t) (ix2 r ⟨1536 + x.val, by omega⟩)
      = proj (a0 m c) (a1 m c) (a2 m c) R ⟨1024 + x.val, by omega⟩ :=
    (pay_wide m c t r R hR _).trans (wide4 _ _ _ R x _ rfl)
  simp only [w, blk4, blk5]
  rw [head_sum (n := 4) rfl, mean64]
  rfl

theorem pay_query (i : Fin 512) :
    k0_pay7 (iblk m c 0 t) (iblk m c 1 t) (iblk m c 2 t) (iblk m c 5 t) (iblk m c 3 t) (ix2 r i)
      = query (a0 m c) (a1 m c) (a2 m c) (a3 m c) R i := by
  pointwise [k0_pay7, k0_pay6]
  have w (x : Fin 512) : k0_pay5 (iblk m c 0 t) (iblk m c 1 t) (iblk m c 2 t) (ix2 r ⟨512 + x.val, by omega⟩)
      = proj (a0 m c) (a1 m c) (a2 m c) R ⟨512 + x.val, by omega⟩ :=
    (pay_wide m c t r R hR _).trans (wide2 _ _ _ R x _ rfl)
  simp only [w, blk3, blk5]
  rw [head_sum (n := 8) rfl, mean64]
  rfl

theorem pay_val (i : Fin 256) : k0_pay2 (k0_pay5 (iblk m c 0 t) (iblk m c 1 t) (iblk m c 2 t)) (ix2 r i)
      = proj (a0 m c) (a1 m c) (a2 m c) R ⟨1280 + i.val, by omega⟩ := by
  pointwise [k0_pay2]
  exact (pay_wide m c t r R hR _).trans (wide5 _ _ _ R i _ rfl)

end Blocks

/-! ## The result arrays -/

section Arrays
open Cert.Reference2Ideal.Read

/-- The reference's five results at device `c`'s arguments. -/
abbrev outU : (⟨2, ![16384, 3456]⟩ : Shape).Idx → EReal := val_main_v60 (F := Ideal) (a0 m c) (a1 m c) (a2 m c) (a3 m c) (a4 m c)
abbrev outK : (⟨2, ![16384, 256]⟩ : Shape).Idx → EReal := val_main_v58 (F := Ideal) (a0 m c) (a1 m c) (a2 m c) (a4 m c)
abbrev outV : (⟨2, ![16384, 256]⟩ : Shape).Idx → EReal := val_main_v18 (F := Ideal) (a0 m c) (a1 m c) (a2 m c)
abbrev outKt : (⟨3, ![2, 256, 8192]⟩ : Shape).Idx → EReal := val_main_v62 (F := Ideal) (a0 m c) (a1 m c) (a2 m c) (a4 m c)
abbrev outVt : (⟨3, ![2, 256, 8192]⟩ : Shape).Idx → EReal := val_main_v64 (F := Ideal) (a0 m c) (a1 m c) (a2 m c)

/-- Off the query and key columns the wide product is the reference's wide array. -/
theorem wide_ref (R : Fin 16384) (j : Fin 3456) (hq : ¬ (512 ≤ j.val ∧ j.val < 1024)) (hk : ¬ (1536 ≤ j.val ∧ j.val < 1792)) :
    wide m c R j = outU m c (ix2 R j) := by
  have hj := j.isLt
  by_cases h0 : 0 ≤ j.val ∧ j.val < 256
  · have e : j.val = 0 + (⟨j.val - 0, by omega⟩ : Fin 256).val := by show j.val = 0 + (j.val - 0); omega
    exact (wide0 _ _ _ R _ j e).trans (ref_u0 _ _ _ _ _ R _ j e).symm
  by_cases h1 : 256 ≤ j.val ∧ j.val < 512
  · have e : j.val = 256 + (⟨j.val - 256, by omega⟩ : Fin 256).val := by show j.val = 256 + (j.val - 256); omega
    exact (wide1 _ _ _ R _ j e).trans (ref_u1 _ _ _ _ _ R _ j e).symm
  by_cases h3 : 1024 ≤ j.val ∧ j.val < 1536
  · have e : j.val = 1024 + (⟨j.val - 1024, by omega⟩ : Fin 512).val := by show j.val = 1024 + (j.val - 1024); omega
    exact (wide3 _ _ _ R _ j e).trans (ref_u3 _ _ _ _ _ R _ j e).symm
  by_cases h5 : 1792 ≤ j.val ∧ j.val < 2048
  · have e : j.val = 1792 + (⟨j.val - 1792, by omega⟩ : Fin 256).val := by show j.val = 1792 + (j.val - 1792); omega
    exact (wide5 _ _ _ R _ j e).trans (ref_u5 _ _ _ _ _ R _ j e).symm
  by_cases h6 : 2048 ≤ j.val ∧ j.val < 2304
  · have e : j.val = 2048 + (⟨j.val - 2048, by omega⟩ : Fin 256).val := by show j.val = 2048 + (j.val - 2048); omega
    exact (wide6 _ _ _ R _ j e).trans (ref_u6 _ _ _ _ _ R _ j e).symm
  by_cases h7 : 2304 ≤ j.val ∧ j.val < 2560
  · have e : j.val = 2304 + (⟨j.val - 2304, by omega⟩ : Fin 256).val := by show j.val = 2304 + (j.val - 2304); omega
    exact (wide7 _ _ _ R _ j e).trans (ref_u7 _ _ _ _ _ R _ j e).symm
  by_cases h8 : 2560 ≤ j.val ∧ j.val < 2816
  · have e : j.val = 2560 + (⟨j.val - 2560, by omega⟩ : Fin 256).val := by show j.val = 2560 + (j.val - 2560); omega
    exact (wide8 _ _ _ R _ j e).trans (ref_u8 _ _ _ _ _ R _ j e).symm
  by_cases h9 : 2816 ≤ j.val ∧ j.val < 3072
  · have e : j.val = 2816 + (⟨j.val - 2816, by omega⟩ : Fin 256).val := by show j.val = 2816 + (j.val - 2816); omega
    exact (wide9 _ _ _ R _ j e).trans (ref_u9 _ _ _ _ _ R _ j e).symm
  by_cases h10 : 3072 ≤ j.val ∧ j.val < 3328
  · have e : j.val = 3072 + (⟨j.val - 3072, by omega⟩ : Fin 256).val := by show j.val = 3072 + (j.val - 3072); omega
    exact (wide10 _ _ _ R _ j e).trans (ref_u10 _ _ _ _ _ R _ j e).symm
  by_cases h11 : 3328 ≤ j.val ∧ j.val < 3332
  · have e : j.val = 3328 + (⟨j.val - 3328, by omega⟩ : Fin 4).val := by show j.val = 3328 + (j.val - 3328); omega
    exact (wide11 _ _ _ R _ j e).trans (ref_u11 _ _ _ _ _ R _ j e).symm
  by_cases h12 : 3332 ≤ j.val ∧ j.val < 3336
  · have e : j.val = 3332 + (⟨j.val - 3332, by omega⟩ : Fin 4).val := by show j.val = 3332 + (j.val - 3332); omega
    exact (wide12 _ _ _ R _ j e).trans (ref_u12 _ _ _ _ _ R _ j e).symm
  have e : j.val = 3336 + (⟨j.val - 3336, by omega⟩ : Fin 120).val := by show j.val = 3336 + (j.val - 3336); omega
  exact (wide13 _ _ _ R _ j e).trans (ref_u13 _ _ _ _ _ R _ j e).symm

/-- The block of the wide array a point leaves: key columns over query columns over the whole product. -/
theorem wide_block (t : Fin cfg0.N) (r : Fin 512) (R : Fin 16384) (hR : R.val = t.val * 512 + r.val) (j : Fin 3456) :
    View.canon (Val := Elt Ideal) (s := S512x3456) (e := .f32)
      [⟨Rect.unit ![0, 1536] ![512, 256] inb_S512x3456_S512x256_0_1536,
          k0_pay1 (k0_pay5 (iblk m c 0 t) (iblk m c 1 t) (iblk m c 2 t)) (k0_pay6 (iblk m c 5 t)) (iblk m c 4 t)⟩,
        ⟨Rect.unit ![0, 512] ![512, 512] inb_S512x3456_S512x512_0_512,
          k0_pay7 (iblk m c 0 t) (iblk m c 1 t) (iblk m c 2 t) (iblk m c 5 t) (iblk m c 3 t)⟩,
        ⟨Rect.unit ![0, 0] ![512, 3456] inb_S512x3456_S512x3456_0_0,
          k0_pay5 (iblk m c 0 t) (iblk m c 1 t) (iblk m c 2 t)⟩] (ix2 r j) = outU m c (ix2 R j) := by
  by_cases hk : 1536 ≤ j.val ∧ j.val < 1792
  · have ej : j.val = 1536 + (⟨j.val - 1536, by omega⟩ : Fin 256).val := by show j.val = 1536 + (j.val - 1536); omega
    refine Eq.trans ?_ ((pay_key m c t r R hR _).trans (ref_u4 _ _ _ _ _ R _ j ej).symm)
    have ee : (ix2 r j : S512x3456.Idx) = (Rect.unit (s := S512x3456) ![0, 1536] ![512, 256] inb_S512x3456_S512x256_0_1536).emb
        (ix2 r (⟨j.val - 1536, by omega⟩ : Fin 256)) := by
      symm
      refine Rect.emb_eq_of_coords _ _ _ fun a => ?_
      match a with
      | ⟨0, _⟩ => show r.val = 0 + 1 * r.val; omega
      | ⟨1, _⟩ => show j.val = 1536 + 1 * (j.val - 1536); omega
    rw [ee]
    exact View.canon_cons_emb _ _ _ _
  · refine (View.canon_cons_of_not_mem _ _ (Rect.not_mem_set_of_axis _ _ 1 1536 256 rfl rfl rfl ?_)).trans ?_
    · show j.val < 1536 ∨ 1536 + 256 ≤ j.val; omega
    by_cases hq : 512 ≤ j.val ∧ j.val < 1024
    · have ej : j.val = 512 + (⟨j.val - 512, by omega⟩ : Fin 512).val := by show j.val = 512 + (j.val - 512); omega
      refine Eq.trans ?_ ((pay_query m c t r R hR _).trans (ref_u2 _ _ _ _ _ R _ j ej).symm)
      have ee : (ix2 r j : S512x3456.Idx) = (Rect.unit (s := S512x3456) ![0, 512] ![512, 512] inb_S512x3456_S512x512_0_512).emb
          (ix2 r (⟨j.val - 512, by omega⟩ : Fin 512)) := by
        symm
        refine Rect.emb_eq_of_coords _ _ _ fun a => ?_
        match a with
        | ⟨0, _⟩ => show r.val = 0 + 1 * r.val; omega
        | ⟨1, _⟩ => show j.val = 512 + 1 * (j.val - 512); omega
      rw [ee]
      exact View.canon_cons_emb _ _ _ _
    · refine (View.canon_cons_of_not_mem _ _ (Rect.not_mem_set_of_axis _ _ 1 512 512 rfl rfl rfl ?_)).trans ?_
      · show j.val < 512 ∨ 512 + 512 ≤ j.val; omega
      have ee : (ix2 r j : S512x3456.Idx) = (Rect.unit (s := S512x3456) ![0, 0] ![512, 3456] inb_S512x3456_S512x3456_0_0).emb (ix2 r j) := by
        symm
        refine Rect.emb_eq_of_coords _ _ _ fun a => ?_
        match a with
        | ⟨0, _⟩ => show r.val = 0 + 1 * r.val; omega
        | ⟨1, _⟩ => show j.val = 0 + 1 * j.val; omega
      rw [ee]
      refine (View.canon_cons_emb _ _ _ _).trans ?_
      exact (pay_wide m c t r R hR j).trans (wide_ref m c R j hq hk)

theorem final6 : (dats m 0 c).arrAt 6 cfg0.N = outU m c := by
  refine (dats m 0 c).arrAt_eq_of_covers 6 _ (by decide +kernel) fun t hf y => ?_
  have ht : t.val < 32 := N_0 ▸ t.isLt
  have h0 : (y 0).val < 512 := (y 0).isLt
  have h1 : (y 1).val < 3456 := (y 1).isLt
  have key := wide_block m c t ⟨(y 0).val, h0⟩ ⟨t.val * 512 + (y 0).val, by omega⟩ rfl ⟨(y 1).val, h1⟩
  have e : ((cfg0.win 6).blk t).view.emb y
      = (ix2 (⟨t.val * 512 + (y 0).val, by omega⟩ : Fin 16384) (⟨(y 1).val, h1⟩ : Fin 3456)) := by
    blk_ext [idx_at t]
  blk_simp
  rw [after0_6]
  unfold outsAt0
  frame_out
  exact Eq.trans (congrArg _ (ix2_eta y).symm) (key.trans (congrArg (outU m c) e.symm))

theorem final7 : (dats m 0 c).arrAt 7 cfg0.N = outK m c := by
  refine (dats m 0 c).arrAt_eq_of_covers 7 _ (by decide +kernel) fun t hf y => ?_
  have ht : t.val < 32 := N_0 ▸ t.isLt
  have h0 : (y 0).val < 512 := (y 0).isLt
  have key := pay_key m c t ⟨(y 0).val, h0⟩ ⟨t.val * 512 + (y 0).val, by omega⟩ rfl ⟨(y 1).val, (y 1).isLt⟩
  have e : ((cfg0.win 7).blk t).view.emb y
      = (ix2 (⟨t.val * 512 + (y 0).val, by omega⟩ : Fin 16384) (⟨(y 1).val, (y 1).isLt⟩ : Fin 256)) := by
    blk_ext [idx_at t]
  blk_simp
  rw [after0_7]
  unfold outsAt0
  frame_out
  refine Eq.trans (congrArg _ (ix2_eta y).symm) (key.trans ?_)
  exact (ref_key _ _ _ _ _ _).symm.trans (congrArg (outK m c) e.symm)

theorem final8 : (dats m 0 c).arrAt 8 cfg0.N = outV m c := by
  refine (dats m 0 c).arrAt_eq_of_covers 8 _ (by decide +kernel) fun t hf y => ?_
  have ht : t.val < 32 := N_0 ▸ t.isLt
  have h0 : (y 0).val < 512 := (y 0).isLt
  have key := pay_val m c t ⟨(y 0).val, h0⟩ ⟨t.val * 512 + (y 0).val, by omega⟩ rfl ⟨(y 1).val, (y 1).isLt⟩
  have e : ((cfg0.win 8).blk t).view.emb y
      = (ix2 (⟨t.val * 512 + (y 0).val, by omega⟩ : Fin 16384) (⟨(y 1).val, (y 1).isLt⟩ : Fin 256)) := by
    blk_ext [idx_at t]
  blk_simp
  rw [after0_8]
  unfold outsAt0
  frame_out
  refine Eq.trans (congrArg _ (ix2_eta y).symm) (key.trans ?_)
  exact (ref_val _ _ _ _ _).symm.trans (congrArg (outV m c) e.symm)

theorem final9 : (dats m 0 c).arrAt 9 cfg0.N = outKt m c := by
  refine (dats m 0 c).arrAt_eq_of_covers 9 _ (by decide +kernel) fun t hf y => ?_
  have ht : t.val < 32 := N_0 ▸ t.isLt
  have h2 : (y 2).val < 512 := (y 2).isLt
  have key := pay_key m c t ⟨(y 2).val, h2⟩ ⟨t.val * 512 + (y 2).val, by omega⟩ rfl ⟨(y 1).val, (y 1).isLt⟩
  have e : ((cfg0.win 9).blk t).view.emb y
      = (ix3 (⟨t.val / 16, by omega⟩ : Fin 2) (⟨(y 1).val, (y 1).isLt⟩ : Fin 256) (⟨t.val % 16 * 512 + (y 2).val, by omega⟩ : Fin 8192)) := by
    blk_ext [idx_at t]
  have er : outKt m c (ix3 (⟨t.val / 16, by omega⟩ : Fin 2) (⟨(y 1).val, (y 1).isLt⟩ : Fin 256) (⟨t.val % 16 * 512 + (y 2).val, by omega⟩ : Fin 8192))
      = outK m c (ix2 (⟨t.val * 512 + (y 2).val, by omega⟩ : Fin 16384) ⟨(y 1).val, (y 1).isLt⟩) := by
    pointwise [outKt, val_main_v62, val_main_v61]
    blk_ext []
  have ep : y = ix3 (0 : Fin 1) (⟨(y 1).val, (y 1).isLt⟩ : Fin 256) (⟨(y 2).val, h2⟩ : Fin 512) := by
    blk_ext []
  blk_simp
  rw [after0_9]
  unfold outsAt0
  frame_out
  refine Eq.trans (congrArg _ ep) (Eq.trans ?_ (key.trans ((ref_key _ _ _ _ _ _).symm.trans (er.symm.trans (congrArg (outKt m c) e.symm)))))
  pointwise [k0_pay3]

theorem final10 : (dats m 0 c).arrAt 10 cfg0.N = outVt m c := by
  refine (dats m 0 c).arrAt_eq_of_covers 10 _ (by decide +kernel) fun t hf y => ?_
  have ht : t.val < 32 := N_0 ▸ t.isLt
  have h2 : (y 2).val < 512 := (y 2).isLt
  have key := pay_val m c t ⟨(y 2).val, h2⟩ ⟨t.val * 512 + (y 2).val, by omega⟩ rfl ⟨(y 1).val, (y 1).isLt⟩
  have e : ((cfg0.win 10).blk t).view.emb y
      = (ix3 (⟨t.val / 16, by omega⟩ : Fin 2) (⟨(y 1).val, (y 1).isLt⟩ : Fin 256) (⟨t.val % 16 * 512 + (y 2).val, by omega⟩ : Fin 8192)) := by
    blk_ext [idx_at t]
  have er : outVt m c (ix3 (⟨t.val / 16, by omega⟩ : Fin 2) (⟨(y 1).val, (y 1).isLt⟩ : Fin 256) (⟨t.val % 16 * 512 + (y 2).val, by omega⟩ : Fin 8192))
      = outV m c (ix2 (⟨t.val * 512 + (y 2).val, by omega⟩ : Fin 16384) ⟨(y 1).val, (y 1).isLt⟩) := by
    pointwise [outVt, val_main_v64, val_main_v63]
    blk_ext []
  have ep : y = ix3 (0 : Fin 1) (⟨(y 1).val, (y 1).isLt⟩ : Fin 256) (⟨(y 2).val, h2⟩ : Fin 512) := by
    blk_ext []
  blk_simp
  rw [after0_10]
  unfold outsAt0
  frame_out
  refine Eq.trans (congrArg _ ep) (Eq.trans ?_ (key.trans ((ref_val _ _ _ _ _).symm.trans (er.symm.trans (congrArg (outVt m c) e.symm)))))
  pointwise [k0_pay4]

end Arrays

/-! ## The claims -/

/-- Both kernels' frames are the generated ones. -/
theorem frame_bits : Cert.quiescent_Kernel2 := fun m ρ _ => Cert.Kernel2.Gen.frame m ρ
theorem frame_ideal : Cert.quiescent_Kernel2Ideal := fun m ρ _ => Cert.Kernel2Ideal.Gen.frame m ρ

/-- The reference's frame: its run read at the arguments; it declares no semaphore. -/
theorem frame_ref : Cert.quiescent_Reference2Ideal := fun m ρ _ =>
  (θ_run Cert.Reference2Ideal.defs _ _).mono
    (fun r h => ⟨fun c => (h c).2.2.2.2.2, Idealize.ShloMosaic.sem_eq_zero_of_no_sems (by decide) r.2⟩)
    (Cert.Reference2Ideal.Value.run (F := Ideal) m ρ)

/-- No operation was rewritten between the kernel and its idealized form. -/
theorem preserved : Cert.preserves_Kernel2_Kernel2Ideal := trivial

/-- From agreeing arguments the kernel's five result arrays end at the reference's. -/
theorem value : Cert.algebraic_Kernel2Ideal_Reference2Ideal := by
  intro m ρ m' ρ' _ hagree
  refine ⟨fun c => outU m c, fun c => outK m c, fun c => outV m c, fun c => outKt m c, fun c => outVt m c, ?_, ?_⟩
  · exact (θ_run Cert.Kernel2Ideal.defs _ _).mono (fun _ h c =>
      ⟨(h c).1.trans (final6 m c), (h c).2.1.trans (final7 m c), (h c).2.2.1.trans (final8 m c),
        (h c).2.2.2.1.trans (final9 m c), (h c).2.2.2.2.1.trans (final10 m c), (h c).2.2.2.2.2⟩)
      (Cert.Kernel2Ideal.Value.run_blocks (F := Ideal) m ρ)
  · refine (θ_run Cert.Reference2Ideal.defs _ _).mono (fun _ h c => ?_)
      (Cert.Reference2Ideal.Value.run (F := Ideal) m' ρ')
    obtain ⟨h0, h1, h2, h3, h4⟩ := hagree c
    obtain ⟨r0, r1, r2, r3, r4, rest⟩ := h c
    refine ⟨r0.trans ?_, r1.trans ?_, r2.trans ?_, r3.trans ?_, r4.trans ?_, rest⟩
    · rw [Cert.Reference2Ideal.Read.val_main_v60_eq, h0, h1, h2, h3, h4]
    · rw [Cert.Reference2Ideal.Read.val_main_v58_eq, h0, h1, h2, h4]
    · rw [Cert.Reference2Ideal.Read.val_main_v18_eq, h0, h1, h2]
    · rw [Cert.Reference2Ideal.Read.val_main_v62_eq, h0, h1, h2, h4]
    · rw [Cert.Reference2Ideal.Read.val_main_v64_eq, h0, h1, h2]

end Cert.InProj
-- ==== Proof.MlRef.lean ====
/-
  The matrix memory over eight tokens: its gates, the new stabiliser and the new state as functions of the arguments,
  and that the reference (Reference6Ideal) computes them. No entry is assumed finite.
-/
module

public import proofs.«01_k».proof.Proof.Gen.Reference6Ideal.Read
public import proofs.«01_k».proof.Proof.RgMath
public import Idealize.ShloMosaic.Lib.Pointwise

@[expose] public section

set_option maxRecDepth 16384

noncomputable section

namespace Cert.Ml

open Idealize.ShloMosaic Idealize.ShloMosaic.TcCoe Idealize.SL.Sem
open scoped BigOperators
open Cert.Rg (softp exp_nonneg log_nonneg)

/-! ## The mathematics -/

/-- The logarithm of the logistic function. -/
def lgs (x : EReal) : EReal := min x 0 - Ideal.log1p (Ideal.exp (-(max x (-x))))

/-- It is the negated smooth positive part of the negated argument; both parts are nonnegative, so negation distributes. -/
theorem lgs_eq (x : EReal) : -(softp (-x)) = lgs x := by
  have hl : 0 ≤ Ideal.log1p (Ideal.exp (-(max (-x) (-(-x))))) := log_nonneg (le_add_of_nonneg_right (exp_nonneg _))
  have hb : Ideal.log1p (Ideal.exp (-(max (-x) (-(-x))))) ≠ ⊥ := fun e => by rw [e] at hl; simp at hl
  have hm : max (-x) 0 ≠ ⊥ := fun e => by
    have h : (0 : EReal) ≤ max (-x) 0 := le_max_right _ _
    rw [e] at h; simp at h
  have en : -(max (-x) 0) = min x 0 := by
    rcases le_total x 0 with h | h
    · rw [max_eq_left (by rw [EReal.le_neg, neg_zero]; exact h), neg_neg, min_eq_left h]
    · rw [max_eq_right (by rw [EReal.neg_le, neg_zero]; exact h), neg_zero, min_eq_right h]
  unfold softp lgs
  rw [EReal.neg_add (Or.inl hm) (Or.inr hb), en, neg_neg, max_comm (-x) x]

/-- The sum of the entries up to `s`. -/
def cum (g : Fin 8 → EReal) (s : Fin 8) : EReal := ∑ q : Fin 8, if q.val ≤ s.val then g q else 0

/-- The greatest of eight entries. -/
def most (g : Fin 8 → EReal) : EReal := Finset.fold max (Ideal.ofBits FTy.f32 0xFF800000#32) g Finset.univ

/-- The new stabiliser, from the total forget logarithm, the old stabiliser and the tokens' logarithms. -/
def newm (f m : EReal) (z : Fin 8 → EReal) : EReal := max (f + m) (most fun s => f + z s)

/-- An entry of the new state: the old entry decayed, and the tokens' keys times their weighted values. -/
def cell (f m : EReal) (z k v : Fin 8 → EReal) (c : EReal) : EReal :=
  Ideal.exp (f + m - newm f m z) * c + ∑ s : Fin 8, k s * (Ideal.exp (f + z s - newm f m z) * v s)

theorem cell_zero (f m : EReal) (z v : Fin 8 → EReal) : cell f m z (fun _ => 0) v 0 = 0 := by
  unfold cell
  simp

theorem cell_zero' (f m : EReal) (z k : Fin 8 → EReal) : cell f m z k (fun _ => 0) 0 = 0 := by
  unfold cell
  simp

theorem pick_le : ∀ q s : Fin 8, IntOp.cmpi CmpIPredicate.sge (IntOp.addi (BitVec.ofNat 32 s.val) 0#32) (BitVec.ofNat 32 q.val)
    = if q.val ≤ s.val then 1#1 else 0#1 := by decide

theorem select_if (p : Prop) [Decidable p] {α : Type} (a b : α) : Scalar.select (if p then 1#1 else 0#1) a b = if p then a else b := by
  split <;> rfl

/-! ## The state as a function of the arguments -/

variable (x0 : (⟨2, ![256, 3456]⟩ : Shape).Idx → EReal) (x1 x2 : (⟨1, ![4]⟩ : Shape).Idx → EReal)
  (x4 : (⟨4, ![32, 4, 64, 64]⟩ : Shape).Idx → EReal) (x5 : (⟨3, ![32, 4, 64]⟩ : Shape).Idx → EReal)
  (x6 : (⟨2, ![32, 4]⟩ : Shape).Idx → EReal) (b : Fin 32) (h : Fin 4)

/-- The entry of sequence `b`'s token `s` in the projected array's column `j`. -/
abbrev tok (s : Fin 8) (j : Fin 3456) : EReal := x0 (ix2 (⟨b.val * 8 + s.val, by omega⟩ : Fin 256) j)

/-- The cumulative logarithm of the forget gate. -/
def forget (s : Fin 8) : EReal := cum (fun q => lgs (tok x0 b q ⟨3332 + h.val, by omega⟩ + x2 (ix1 h))) s

/-- The input gate's logarithm less the cumulative forget logarithm. -/
def logit (s : Fin 8) : EReal := (tok x0 b s ⟨3328 + h.val, by omega⟩ + x1 (ix1 h)) - forget x0 x2 b h s

/-- Head `h`'s scaled keys and its values, of channel `i`. -/
def key (i : Fin 64) (s : Fin 8) : EReal := tok x0 b s ⟨2304 + (h.val * 64 + i.val), by omega⟩ * Ideal.ofBits FTy.f32 0x3E000000#32
def val (i : Fin 64) (s : Fin 8) : EReal := tok x0 b s ⟨2560 + (h.val * 64 + i.val), by omega⟩

/-- The keys padded to 128 channels with zeros. -/
def keyPad (i : Fin 128) (s : Fin 8) : EReal := if hi : i.val < 64 then key x0 b h ⟨i.val, hi⟩ s else 0

/-- The values with a one after their 64 channels, for the normaliser, and zeros behind. -/
def valPad (j : Fin 128) (s : Fin 8) : EReal := if hj : j.val < 64 then val x0 b h ⟨j.val, hj⟩ s else if j.val = 64 then 1 else 0

/-- The old state and normaliser in one tile. -/
def oldPad (i j : Fin 128) : EReal :=
  if hi : i.val < 64 then if hj : j.val < 64 then x4 (ix4 b h ⟨i.val, hi⟩ ⟨j.val, hj⟩) else if j.val = 64 then x5 (ix3 b h ⟨i.val, hi⟩) else 0
  else 0

/-- The new tile. -/
def tile (i j : Fin 128) : EReal :=
  cell (forget x0 x2 b h 7) (x6 (ix2 b h)) (logit x0 x1 x2 b h) (keyPad x0 b h i) (valPad x0 b h j) (oldPad x4 x5 b h i j)

/-- The new stabiliser's rows: one per head, then zeros. -/
def stab (r : Fin 8) : EReal :=
  if hr : r.val < 4 then newm (forget x0 x2 b ⟨r.val, hr⟩ 7) (x6 (ix2 b ⟨r.val, hr⟩)) (logit x0 x1 x2 b ⟨r.val, hr⟩) else 0

/-! ## The reference -/

section Ref
open Cert.Reference6Ideal.Read

theorem ref_lf (s : Fin 8) : val_main_v20 (F := Ideal) x0 x2 (ix3 b h s) = lgs (tok x0 b s ⟨3332 + h.val, by omega⟩ + x2 (ix1 h)) := by
  rw [← lgs_eq]
  pointwise [val_main_v20, val_main_v19, val_main_call0_v1, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_v18, val_main_v17, val_main_v16, val_main_v15, val_main_v14]
  rw [if_neg (by simp)]
  rfl

theorem ref_cum (s : Fin 8) : val_main_v25 (F := Ideal) x0 x2 (ix3 b h s) = forget x0 x2 b h s := by
  have e : val_main_v25 (F := Ideal) x0 x2 (ix3 b h s) = cum (fun q => val_main_v20 (F := Ideal) x0 x2 (ix3 b h q)) s := by
    rw [val_main_v25_apply]
    unfold val_main_v24 val_main_call2_v2 val_main_v23
    generalize val_main_v20 (F := Ideal) x0 x2 = y
    pointwise [val_main_v22, val_main_v21, val_main_c, val_main_call1_v0, val_main_call1_v1, val_main_call1_v2, val_main_call1_v3, val_main_call1_v4, val_main_call1_v5, val_main_call1_c, val_main_call1_c_0, val_main_call2_v0, val_main_call2_v1, val_main_call2_v3, val_main_cst_0, val_main_cst_1]
    unfold cum
    refine Finset.sum_congr rfl fun q _ => ?_
    rw [pick_le, select_if, select_if]
    by_cases hq : q.val ≤ s.val
    · rw [if_pos hq, if_pos hq]
    · rw [if_neg hq, if_neg hq]
      exact Ideal.ofBits_zero FTy.f32
  rw [e]
  unfold forget
  simp only [ref_lf]

theorem ref_in (s : Fin 8) : val_main_v13 (F := Ideal) x0 x1 (ix3 b h s) = tok x0 b s ⟨3328 + h.val, by omega⟩ + x1 (ix1 h) := by
  pointwise [val_main_v13, val_main_v12, val_main_v11, val_main_v10, val_main_v9, val_main_v8]

theorem ref_wlog (s : Fin 8) : val_main_v31 (F := Ideal) x0 x1 x2 (ix3 b h s) = forget x0 x2 b h 7 + logit x0 x1 x2 b h s := by
  have e : val_main_v31 (F := Ideal) x0 x1 x2 (ix3 b h s) = val_main_v25 (F := Ideal) x0 x2 (ix3 b h 7)
      - val_main_v25 (F := Ideal) x0 x2 (ix3 b h s) + val_main_v13 (F := Ideal) x0 x1 (ix3 b h s) := by
    unfold val_main_v31 val_main_v30 val_main_v29 val_main_v28 val_main_v27 val_main_v26
    generalize val_main_v25 (F := Ideal) x0 x2 = y
    generalize val_main_v13 (F := Ideal) x0 x1 = z
    pointwise []
  rw [e, ref_cum, ref_cum, ref_in]
  unfold logit
  rw [sub_eq_add_neg, sub_eq_add_neg, add_assoc, add_comm (-_)]

theorem ref_newm : val_main_v34 (F := Ideal) x0 x1 x2 x6 (ix2 b h) = newm (forget x0 x2 b h 7) (x6 (ix2 b h)) (logit x0 x1 x2 b h) := by
  have e : val_main_v34 (F := Ideal) x0 x1 x2 x6 (ix2 b h) = max (val_main_v25 (F := Ideal) x0 x2 (ix3 b h 7) + x6 (ix2 b h))
      (most fun s => val_main_v31 (F := Ideal) x0 x1 x2 (ix3 b h s)) := by
    unfold val_main_v34 val_main_v33 val_main_v32 val_main_v27 val_main_v26
    generalize val_main_v25 (F := Ideal) x0 x2 = y
    generalize val_main_v31 (F := Ideal) x0 x1 x2 = z
    pointwise [val_main_cst_2]
    rfl
  rw [e, ref_cum]
  simp only [ref_wlog]
  rfl

theorem ref_decay : val_main_v37 (F := Ideal) x0 x1 x2 x6 (ix2 b h)
    = Ideal.exp (forget x0 x2 b h 7 + x6 (ix2 b h) - newm (forget x0 x2 b h 7) (x6 (ix2 b h)) (logit x0 x1 x2 b h)) := by
  have e : val_main_v37 (F := Ideal) x0 x1 x2 x6 (ix2 b h) = Ideal.exp (val_main_v25 (F := Ideal) x0 x2 (ix3 b h 7) + x6 (ix2 b h)
      - val_main_v34 (F := Ideal) x0 x1 x2 x6 (ix2 b h)) := by
    unfold val_main_v37 val_main_v36 val_main_v35 val_main_v27 val_main_v26
    generalize val_main_v25 (F := Ideal) x0 x2 = y
    generalize val_main_v34 (F := Ideal) x0 x1 x2 x6 = z
    pointwise []
  rw [e, ref_cum, ref_newm]

theorem ref_weight (s : Fin 8) : val_main_v41 (F := Ideal) x0 x1 x2 x6 (ix3 b h s)
    = Ideal.exp (forget x0 x2 b h 7 + logit x0 x1 x2 b h s - newm (forget x0 x2 b h 7) (x6 (ix2 b h)) (logit x0 x1 x2 b h)) := by
  have e : val_main_v41 (F := Ideal) x0 x1 x2 x6 (ix3 b h s) = Ideal.exp (val_main_v31 (F := Ideal) x0 x1 x2 (ix3 b h s)
      - val_main_v34 (F := Ideal) x0 x1 x2 x6 (ix2 b h)) := by
    unfold val_main_v41 val_main_v40 val_main_v39 val_main_v38
    generalize val_main_v31 (F := Ideal) x0 x1 x2 = y
    generalize val_main_v34 (F := Ideal) x0 x1 x2 x6 = z
    pointwise []
  rw [e, ref_wlog, ref_newm]

theorem ref_key (s : Fin 8) (i : Fin 64) : val_main_v4 (F := Ideal) x0 (ix4 b h s i) = key x0 b h i s := by
  pointwise [val_main_v4, val_main_v3, val_main_v2, val_main_v1, val_main_v0, val_main_cst]
  rfl

theorem ref_val (s : Fin 8) (i : Fin 64) : val_main_v7 (F := Ideal) x0 (ix4 b h s i) = val x0 b h i s := by
  pointwise [val_main_v7, val_main_v6, val_main_v5]
  rfl

theorem ref_C (i j : Fin 64) : val_main_v49 (F := Ideal) x0 x1 x2 x4 x6 (ix4 b h i j)
    = cell (forget x0 x2 b h 7) (x6 (ix2 b h)) (logit x0 x1 x2 b h) (key x0 b h i) (val x0 b h j) (x4 (ix4 b h i j)) := by
  have e : val_main_v49 (F := Ideal) x0 x1 x2 x4 x6 (ix4 b h i j) = val_main_v37 (F := Ideal) x0 x1 x2 x6 (ix2 b h) * x4 (ix4 b h i j)
      + ∑ s : Fin 8, val_main_v41 (F := Ideal) x0 x1 x2 x6 (ix3 b h s) * val_main_v4 (F := Ideal) x0 (ix4 b h s i)
          * val_main_v7 (F := Ideal) x0 (ix4 b h s j) := by
    unfold val_main_v49 val_main_v44 val_main_v43 val_main_v42 val_main_v48 val_main_v47 val_main_v46 val_main_v45
    generalize val_main_v37 (F := Ideal) x0 x1 x2 x6 = d
    generalize val_main_v41 (F := Ideal) x0 x1 x2 x6 = w
    generalize val_main_v4 (F := Ideal) x0 = k
    generalize val_main_v7 (F := Ideal) x0 = v
    pointwise []
  rw [e, ref_decay]
  unfold cell
  refine congrArg₂ _ rfl (Finset.sum_congr rfl fun s _ => ?_)
  rw [ref_weight, ref_key, ref_val, mul_comm (Ideal.exp _), mul_assoc]

theorem ref_n (i : Fin 64) : val_main_v57 (F := Ideal) x0 x1 x2 x5 x6 (ix3 b h i)
    = cell (forget x0 x2 b h 7) (x6 (ix2 b h)) (logit x0 x1 x2 b h) (key x0 b h i) (fun _ => 1) (x5 (ix3 b h i)) := by
  have e : val_main_v57 (F := Ideal) x0 x1 x2 x5 x6 (ix3 b h i) = val_main_v37 (F := Ideal) x0 x1 x2 x6 (ix2 b h) * x5 (ix3 b h i)
      + ∑ s : Fin 8, val_main_v41 (F := Ideal) x0 x1 x2 x6 (ix3 b h s) * val_main_v4 (F := Ideal) x0 (ix4 b h s i) := by
    unfold val_main_v57 val_main_v52 val_main_v51 val_main_v50 val_main_v56 val_main_v55 val_main_v54 val_main_v53
    generalize val_main_v37 (F := Ideal) x0 x1 x2 x6 = d
    generalize val_main_v41 (F := Ideal) x0 x1 x2 x6 = w
    generalize val_main_v4 (F := Ideal) x0 = k
    pointwise [val_main_cst_3]
  rw [e, ref_decay]
  unfold cell
  refine congrArg₂ _ rfl (Finset.sum_congr rfl fun s _ => ?_)
  rw [ref_weight, ref_key, mul_comm (Ideal.exp _), mul_one]

/-- The reference's tile is `tile`. -/
theorem ref_tile (i j : Fin 128) : val_main_v62 (F := Ideal) x0 x1 x2 x4 x5 x6 (ix4 b h i j) = tile x0 x1 x2 x4 x5 x6 b h i j := by
  have e : val_main_v62 (F := Ideal) x0 x1 x2 x4 x5 x6 (ix4 b h i j)
      = if hi : i.val < 64 then if hj : j.val < 64 then val_main_v49 (F := Ideal) x0 x1 x2 x4 x6 (ix4 b h ⟨i.val, hi⟩ ⟨j.val, hj⟩)
          else if j.val = 64 then val_main_v57 (F := Ideal) x0 x1 x2 x5 x6 (ix3 b h ⟨i.val, hi⟩) else 0 else 0 := by
    unfold val_main_v62 val_main_v60 val_main_v58
    generalize val_main_v49 (F := Ideal) x0 x1 x2 x4 x6 = y
    generalize val_main_v57 (F := Ideal) x0 x1 x2 x5 x6 = z
    pointwise [val_main_v61, val_main_v59, val_main_cst_4, val_main_cst_5]
    split
    · split
      · rfl
      · rename_i hj
        by_cases h64 : j.val = 64
        · rw [dif_pos (show j.val - 64 < 1 by omega), if_pos h64]
        · rw [dif_neg (show ¬ j.val - 64 < 1 by omega), if_neg h64]
    · rfl
  rw [e]
  unfold tile oldPad
  by_cases hi : i.val < 64
  · have ek : keyPad x0 b h i = key x0 b h ⟨i.val, hi⟩ := funext fun s => dif_pos hi
    rw [dif_pos hi, dif_pos hi, ek]
    by_cases hj : j.val < 64
    · have ev : valPad x0 b h j = val x0 b h ⟨j.val, hj⟩ := funext fun s => dif_pos hj
      rw [dif_pos hj, dif_pos hj, ev]
      exact ref_C x0 x1 x2 x4 x6 b h ⟨i.val, hi⟩ ⟨j.val, hj⟩
    · rw [dif_neg hj, dif_neg hj]
      by_cases h64 : j.val = 64
      · have ev : valPad x0 b h j = fun _ => 1 := funext fun s => (dif_neg hj).trans (if_pos h64)
        rw [if_pos h64, if_pos h64, ev]
        exact ref_n x0 x1 x2 x5 x6 b h ⟨i.val, hi⟩
      · have ev : valPad x0 b h j = fun _ => 0 := funext fun s => (dif_neg hj).trans (if_neg h64)
        rw [if_neg h64, if_neg h64, ev, cell_zero']
  · have ek : keyPad x0 b h i = fun _ => 0 := funext fun s => dif_neg hi
    rw [dif_neg hi, dif_neg hi, ek, cell_zero]

/-- The reference's stabiliser rows are `stab`. -/
theorem ref_stab (r : Fin 8) (l : Fin 128) : val_main_v66 (F := Ideal) x0 x1 x2 x6 (ix3 b r l) = stab x0 x1 x2 x6 b r := by
  have e : val_main_v66 (F := Ideal) x0 x1 x2 x6 (ix3 b r l)
      = if hr : r.val < 4 then val_main_v34 (F := Ideal) x0 x1 x2 x6 (ix2 b ⟨r.val, hr⟩) else 0 := by
    unfold val_main_v66 val_main_v64 val_main_v63
    generalize val_main_v34 (F := Ideal) x0 x1 x2 x6 = y
    pointwise [val_main_v65, val_main_cst_6]
  rw [e]
  unfold stab
  split
  · exact ref_newm x0 x1 x2 x6 b _
  · rfl

end Ref

end Cert.Ml
-- ==== Proof.MlPay.lean ====
/-
  The matrix memory's kernel on the sample batch (program Kernel6Ideal), value by value, over any contents of its blocks.
-/
module

public import proofs.«01_k».proof.Proof.Gen.Kernel6Ideal.Value
public import proofs.«01_k».proof.Proof.MlRef
public import Idealize.ShloMosaic.Lib.Pointwise

@[expose] public section

set_option maxRecDepth 16384

noncomputable section

namespace Cert.Ml

open Idealize.ShloMosaic Idealize.ShloMosaic.TcCoe Idealize.SL.Sem
open scoped BigOperators
open Cert.Kernel6Ideal Cert.Kernel6Ideal.Gen

/-! ## One head's update -/

section Head
variable (kk vv : S8x128.Idx → EReal) (mm : S1x1.Idx → EReal) (ff zz : S8x1.Idx → EReal) (cc : S1x128x128.Idx → EReal) (i j : Fin 128)

/-- A head's new tile. -/
abbrev upd : EReal := cell (ff (ix2 7 0)) (mm (ix2 0 0)) (fun s => zz (ix2 s 0)) (fun s => kk (ix2 s i)) (fun s => vv (ix2 s j)) (cc (ix3 0 i j))

theorem upd_pay : k0_pay27 (F := Ideal) (k0_pay20 cc) (k0_pay25 kk vv mm ff zz) (k0_pay26 mm ff zz) (ix3 0 i j) = upd kk vv mm ff zz cc i j := by
  pointwise [k0_pay27, k0_pay20, k0_pay25, k0_pay26, k0_pay24, k0_pay23, k0_pay22]
  rfl
theorem upd_pay1 : k0_pay48 (F := Ideal) kk vv mm ff zz (k0_pay43 cc) (ix3 0 i j) = upd kk vv mm ff zz cc i j := upd_pay kk vv mm ff zz cc i j
theorem upd_pay2 : k0_pay71 (F := Ideal) kk vv mm ff zz (k0_pay65 cc) (ix3 0 i j) = upd kk vv mm ff zz cc i j := upd_pay kk vv mm ff zz cc i j
theorem upd_pay3 : k0_pay90 (F := Ideal) (k0_pay83 cc) (k0_pay88 kk vv mm ff zz) (k0_pay89 mm ff zz) (ix3 0 i j) = upd kk vv mm ff zz cc i j :=
  upd_pay kk vv mm ff zz cc i j

/-- A head's new stabiliser, along its row. -/
abbrev updm : EReal := newm (ff (ix2 7 0)) (mm (ix2 0 0)) (fun s => zz (ix2 s 0))

theorem updm_pay : k0_pay28 (F := Ideal) (k0_pay24 mm ff zz) (ix2 0 j) = updm mm ff zz := by
  pointwise [k0_pay28, k0_pay24, k0_pay23, k0_pay22]
  rfl
theorem updm_pay1 : k0_pay49 (F := Ideal) mm ff zz (ix2 0 j) = updm mm ff zz := updm_pay mm ff zz j
theorem updm_pay2 : k0_pay72 (F := Ideal) mm ff zz (ix2 0 j) = updm mm ff zz := updm_pay mm ff zz j
theorem updm_pay3 : k0_pay91 (F := Ideal) (k0_pay87 mm ff zz) (ix2 0 j) = updm mm ff zz := updm_pay mm ff zz j
end Head

/-! ## The kept tiles: four of them, each replaced once -/

section Tiles
variable (L : List (View.Piece (Elt Ideal) S4x128x128 .f32)) (p : S1x128x128.Idx → EReal) (w : S4x128x128.Idx → EReal)
  (o : Nat) (inb : ∀ a, (![o, 0, 0] : Fin 3 → Nat) a + (![1, 128, 128] : Fin 3 → Nat) a ≤ S4x128x128.size a) (h : Fin 4) (i j : Fin 128)

theorem tile_skip (hh : h.val ≠ o) :
    View.canon (Val := Elt Ideal) ((⟨Rect.unit (s := S4x128x128) ![o, 0, 0] ![1, 128, 128] inb, p⟩ : View.Piece (Elt Ideal) S4x128x128 .f32) :: L) (ix3 h i j)
      = View.canon L (ix3 h i j) := by
  refine View.canon_cons_of_not_mem _ _ (Rect.not_mem_set_of_axis _ _ 0 o 1 rfl rfl rfl ?_)
  show h.val < o ∨ o + 1 ≤ h.val; omega

theorem tile_hit (hh : h.val = o) :
    View.canon (Val := Elt Ideal) ((⟨Rect.unit (s := S4x128x128) ![o, 0, 0] ![1, 128, 128] inb, p⟩ : View.Piece (Elt Ideal) S4x128x128 .f32) :: L) (ix3 h i j)
      = p (ix3 0 i j) := by
  have ee : (ix3 h i j : S4x128x128.Idx) = (Rect.unit (s := S4x128x128) ![o, 0, 0] ![1, 128, 128] inb).emb (ix3 (0 : Fin 1) i j) := by
    symm
    refine Rect.emb_eq_of_coords _ _ _ fun a => ?_
    match a with
    | ⟨0, _⟩ => show h.val = o + 1 * 0; omega
    | ⟨1, _⟩ => show i.val = 0 + 1 * i.val; omega
    | ⟨2, _⟩ => show j.val = 0 + 1 * j.val; omega
  rw [ee]
  exact View.canon_cons_emb _ _ _ _

theorem tile_whole :
    View.canon (Val := Elt Ideal) ((⟨Rect.unit (s := S4x128x128) ![0, 0, 0] ![4, 128, 128] inb_S4x128x128_S4x128x128_0_0_0, w⟩ : View.Piece (Elt Ideal) S4x128x128 .f32) :: L) (ix3 h i j)
      = w (ix3 h i j) := by
  have ee : (ix3 h i j : S4x128x128.Idx) = (Rect.unit (s := S4x128x128) ![0, 0, 0] ![4, 128, 128] inb_S4x128x128_S4x128x128_0_0_0).emb (ix3 h i j) := by
    symm
    refine Rect.emb_eq_of_coords _ _ _ fun a => ?_
    match a with
    | ⟨0, _⟩ => show h.val = 0 + 1 * h.val; omega
    | ⟨1, _⟩ => show i.val = 0 + 1 * i.val; omega
    | ⟨2, _⟩ => show j.val = 0 + 1 * j.val; omega
  refine (congrArg _ ee).trans ?_
  exact View.canon_cons_emb _ _ _ _

theorem tile_load (hh : h.val = o) :
    (View.whole cc0_scratch0).readCov (Val := Elt Ideal) L (Rect.unit (s := S4x128x128) ![o, 0, 0] ![1, 128, 128] inb).toLoadRect (ix3 (0 : Fin 1) i j)
      = View.canon L (ix3 h i j) := by
  rw [View.readCov_eq_canon']
  have e : (Rect.unit (s := S4x128x128) ![o, 0, 0] ![1, 128, 128] inb).toLoadRect.idx (ix3 (0 : Fin 1) i j) = (ix3 h i j : S4x128x128.Idx) := by
    funext a
    match a with
    | ⟨0, _⟩ => apply Fin.ext; show o + 1 * 0 = h.val; omega
    | ⟨1, _⟩ => apply Fin.ext; show 0 + 1 * i.val = i.val; omega
    | ⟨2, _⟩ => apply Fin.ext; show 0 + 1 * j.val = j.val; omega
  show View.canon (Val := Elt Ideal) L ((Rect.unit (s := S4x128x128) ![o, 0, 0] ![1, 128, 128] inb).toLoadRect.idx (ix3 (0 : Fin 1) i j)) = _
  rw [e]

theorem tile_all :
    (View.whole cc0_scratch0).readCov (Val := Elt Ideal) L (Rect.unit (s := S4x128x128) ![0, 0, 0] ![4, 128, 128] inb_S4x128x128_S4x128x128_0_0_0).toLoadRect (ix3 h i j)
      = View.canon L (ix3 h i j) := by
  rw [View.readCov_eq_canon']
  have e : (Rect.unit (s := S4x128x128) ![0, 0, 0] ![4, 128, 128] inb_S4x128x128_S4x128x128_0_0_0).toLoadRect.idx (ix3 h i j) = (ix3 h i j : S4x128x128.Idx) := by
    funext a
    match a with
    | ⟨0, _⟩ => apply Fin.ext; show 0 + 1 * h.val = h.val; omega
    | ⟨1, _⟩ => apply Fin.ext; show 0 + 1 * i.val = i.val; omega
    | ⟨2, _⟩ => apply Fin.ext; show 0 + 1 * j.val = j.val; omega
  show View.canon (Val := Elt Ideal) L ((Rect.unit (s := S4x128x128) ![0, 0, 0] ![4, 128, 128] inb_S4x128x128_S4x128x128_0_0_0).toLoadRect.idx (ix3 h i j)) = _
  rw [e]
end Tiles

/-! ## The kept stabilisers: eight rows, the first four each replaced once -/

section Rows
variable (L : List (View.Piece (Elt Ideal) S8x128 .f32)) (p : S1x128.Idx → EReal) (w : S8x128.Idx → EReal)
  (o : Nat) (inb : ∀ a, (![o, 0] : Fin 2 → Nat) a + (![1, 128] : Fin 2 → Nat) a ≤ S8x128.size a)
  (inb1 : ∀ a, (![o, 0] : Fin 2 → Nat) a + (![1, 1] : Fin 2 → Nat) a ≤ S8x128.size a) (h : Fin 8) (l : Fin 128)

theorem row_skip (hh : h.val ≠ o) :
    View.canon (Val := Elt Ideal) ((⟨Rect.unit (s := S8x128) ![o, 0] ![1, 128] inb, p⟩ : View.Piece (Elt Ideal) S8x128 .f32) :: L) (ix2 h l) = View.canon L (ix2 h l) := by
  refine View.canon_cons_of_not_mem _ _ (Rect.not_mem_set_of_axis _ _ 0 o 1 rfl rfl rfl ?_)
  show h.val < o ∨ o + 1 ≤ h.val; omega

theorem row_hit (hh : h.val = o) :
    View.canon (Val := Elt Ideal) ((⟨Rect.unit (s := S8x128) ![o, 0] ![1, 128] inb, p⟩ : View.Piece (Elt Ideal) S8x128 .f32) :: L) (ix2 h l) = p (ix2 0 l) := by
  have ee : (ix2 h l : S8x128.Idx) = (Rect.unit (s := S8x128) ![o, 0] ![1, 128] inb).emb (ix2 (0 : Fin 1) l) := by
    symm
    refine Rect.emb_eq_of_coords _ _ _ fun a => ?_
    match a with
    | ⟨0, _⟩ => show h.val = o + 1 * 0; omega
    | ⟨1, _⟩ => show l.val = 0 + 1 * l.val; omega
  rw [ee]
  exact View.canon_cons_emb _ _ _ _

theorem row_whole :
    View.canon (Val := Elt Ideal) ((⟨Rect.unit (s := S8x128) ![0, 0] ![8, 128] inb_S8x128_S8x128_0_0, w⟩ : View.Piece (Elt Ideal) S8x128 .f32) :: L) (ix2 h l) = w (ix2 h l) := by
  have ee : (ix2 h l : S8x128.Idx) = (Rect.unit (s := S8x128) ![0, 0] ![8, 128] inb_S8x128_S8x128_0_0).emb (ix2 h l) := by
    symm
    refine Rect.emb_eq_of_coords _ _ _ fun a => ?_
    match a with
    | ⟨0, _⟩ => show h.val = 0 + 1 * h.val; omega
    | ⟨1, _⟩ => show l.val = 0 + 1 * l.val; omega
  refine (congrArg _ ee).trans ?_
  exact View.canon_cons_emb _ _ _ _

theorem row_load (hh : h.val = o) :
    (View.whole cc0_scratch1).readCov (Val := Elt Ideal) L (Rect.unit (s := S8x128) ![o, 0] ![1, 1] inb1).toLoadRect (ix2 (0 : Fin 1) (0 : Fin 1)) = View.canon L (ix2 h 0) := by
  rw [View.readCov_eq_canon']
  have e : (Rect.unit (s := S8x128) ![o, 0] ![1, 1] inb1).toLoadRect.idx (ix2 (0 : Fin 1) (0 : Fin 1)) = (ix2 h (0 : Fin 128) : S8x128.Idx) := by
    funext a
    match a with
    | ⟨0, _⟩ => apply Fin.ext; show o + 1 * 0 = h.val; omega
    | ⟨1, _⟩ => apply Fin.ext; rfl
  show View.canon (Val := Elt Ideal) L ((Rect.unit (s := S8x128) ![o, 0] ![1, 1] inb1).toLoadRect.idx (ix2 (0 : Fin 1) (0 : Fin 1))) = _
  rw [e]

theorem row_all :
    (View.whole cc0_scratch1).readCov (Val := Elt Ideal) L (Rect.unit (s := S8x128) ![0, 0] ![8, 128] inb_S8x128_S8x128_0_0).toLoadRect (ix2 h l) = View.canon L (ix2 h l) := by
  rw [View.readCov_eq_canon']
  have e : (Rect.unit (s := S8x128) ![0, 0] ![8, 128] inb_S8x128_S8x128_0_0).toLoadRect.idx (ix2 h l) = (ix2 h l : S8x128.Idx) := by
    funext a
    match a with
    | ⟨0, _⟩ => apply Fin.ext; show 0 + 1 * h.val = h.val; omega
    | ⟨1, _⟩ => apply Fin.ext; show 0 + 1 * l.val = l.val; omega
  show View.canon (Val := Elt Ideal) L ((Rect.unit (s := S8x128) ![0, 0] ![8, 128] inb_S8x128_S8x128_0_0).toLoadRect.idx (ix2 h l)) = _
  rw [e]
end Rows

/-! ## The four heads in turn -/

section Heads
variable (K0 K1 K2 K3 V0 V1 V2 V3 : S8x128.Idx → EReal) (F0 F1 F2 F3 Z0 Z1 Z2 Z3 : S8x1.Idx → EReal)
  (MI : S8x128.Idx → EReal) (CI : S4x128x128.Idx → EReal)

/-- The stabilisers as kept before each head, what the head reads of them, and the row it stores. -/
abbrev ML0 : List (View.Piece (Elt Ideal) S8x128 .f32) := [⟨Rect.unit ![0, 0] ![8, 128] inb_S8x128_S8x128_0_0, MI⟩]
abbrev m0 : S1x1.Idx → EReal := (View.whole cc0_scratch1).readCov (Val := Elt Ideal) (ML0 MI) (Rect.unit (s := S8x128) ![0, 0] ![1, 1] inb_S8x128_S1x1_0_0).toLoadRect
abbrev ML1 : List (View.Piece (Elt Ideal) S8x128 .f32) := ⟨Rect.unit ![0, 0] ![1, 128] inb_S8x128_S1x128_0_0, k0_pay28 (F := Ideal) (k0_pay24 (m0 MI) F0 Z0)⟩ :: ML0 MI
abbrev m1 : S1x1.Idx → EReal := (View.whole cc0_scratch1).readCov (Val := Elt Ideal) (ML1 F0 Z0 MI) (Rect.unit (s := S8x128) ![1, 0] ![1, 1] inb_S8x128_S1x1_1_0).toLoadRect
abbrev ML2 : List (View.Piece (Elt Ideal) S8x128 .f32) := ⟨Rect.unit ![1, 0] ![1, 128] inb_S8x128_S1x128_1_0, k0_pay49 (F := Ideal) (m1 F0 Z0 MI) F1 Z1⟩ :: ML1 F0 Z0 MI
abbrev m2 : S1x1.Idx → EReal := (View.whole cc0_scratch1).readCov (Val := Elt Ideal) (ML2 F0 F1 Z0 Z1 MI) (Rect.unit (s := S8x128) ![2, 0] ![1, 1] inb_S8x128_S1x1_2_0).toLoadRect
abbrev ML3 : List (View.Piece (Elt Ideal) S8x128 .f32) := ⟨Rect.unit ![2, 0] ![1, 128] inb_S8x128_S1x128_2_0, k0_pay72 (F := Ideal) (m2 F0 F1 Z0 Z1 MI) F2 Z2⟩ :: ML2 F0 F1 Z0 Z1 MI
abbrev m3 : S1x1.Idx → EReal := (View.whole cc0_scratch1).readCov (Val := Elt Ideal) (ML3 F0 F1 F2 Z0 Z1 Z2 MI) (Rect.unit (s := S8x128) ![3, 0] ![1, 1] inb_S8x128_S1x1_3_0).toLoadRect
abbrev ML4 : List (View.Piece (Elt Ideal) S8x128 .f32) :=
  ⟨Rect.unit ![3, 0] ![1, 128] inb_S8x128_S1x128_3_0, k0_pay91 (F := Ideal) (k0_pay87 (m3 F0 F1 F2 Z0 Z1 Z2 MI) F3 Z3)⟩ :: ML3 F0 F1 F2 Z0 Z1 Z2 MI

theorem m0_at : m0 MI (ix2 0 0) = MI (ix2 0 0) := (row_load _ 0 _ 0 rfl).trans (row_whole _ _ _ _)
theorem m1_at : m1 F0 Z0 MI (ix2 0 0) = MI (ix2 1 0) :=
  (row_load _ 1 _ 1 rfl).trans ((row_skip _ _ 0 _ _ _ (by decide)).trans (row_whole _ _ _ _))
theorem m2_at : m2 F0 F1 Z0 Z1 MI (ix2 0 0) = MI (ix2 2 0) :=
  (row_load _ 2 _ 2 rfl).trans ((row_skip _ _ 1 _ _ _ (by decide)).trans ((row_skip _ _ 0 _ _ _ (by decide)).trans (row_whole _ _ _ _)))
theorem m3_at : m3 F0 F1 F2 Z0 Z1 Z2 MI (ix2 0 0) = MI (ix2 3 0) :=
  (row_load _ 3 _ 3 rfl).trans ((row_skip _ _ 2 _ _ _ (by decide)).trans ((row_skip _ _ 1 _ _ _ (by decide)).trans
    ((row_skip _ _ 0 _ _ _ (by decide)).trans (row_whole _ _ _ _))))

/-- The stabilisers at the end. -/
theorem rows_end (r : Fin 8) (l : Fin 128) :
    (View.whole cc0_scratch1).readCov (Val := Elt Ideal) (ML4 F0 F1 F2 F3 Z0 Z1 Z2 Z3 MI) (Rect.unit (s := S8x128) ![0, 0] ![8, 128] inb_S8x128_S8x128_0_0).toLoadRect (ix2 r l)
      = if hr : r.val < 4 then newm ((![F0, F1, F2, F3] : Fin 4 → S8x1.Idx → EReal) ⟨r.val, hr⟩ (ix2 7 0)) (MI (ix2 r 0))
            (fun s => (![Z0, Z1, Z2, Z3] : Fin 4 → S8x1.Idx → EReal) ⟨r.val, hr⟩ (ix2 s 0))
        else MI (ix2 r l) := by
  refine (row_all _ r l).trans ?_
  by_cases h3 : r.val = 3
  · obtain rfl : r = 3 := Fin.ext h3
    refine (row_hit _ _ 3 _ _ _ rfl).trans ((updm_pay3 _ _ _ _).trans ?_)
    rw [updm, m3_at]; rfl
  refine (row_skip _ _ 3 _ _ _ h3).trans ?_
  by_cases h2 : r.val = 2
  · obtain rfl : r = 2 := Fin.ext h2
    refine (row_hit _ _ 2 _ _ _ rfl).trans ((updm_pay2 _ _ _ _).trans ?_)
    rw [updm, m2_at]; rfl
  refine (row_skip _ _ 2 _ _ _ h2).trans ?_
  by_cases h1 : r.val = 1
  · obtain rfl : r = 1 := Fin.ext h1
    refine (row_hit _ _ 1 _ _ _ rfl).trans ((updm_pay1 _ _ _ _).trans ?_)
    rw [updm, m1_at]; rfl
  refine (row_skip _ _ 1 _ _ _ h1).trans ?_
  by_cases h0 : r.val = 0
  · obtain rfl : r = 0 := Fin.ext h0
    refine (row_hit _ _ 0 _ _ _ rfl).trans ((updm_pay _ _ _ _).trans ?_)
    rw [updm, m0_at]; rfl
  refine (row_skip _ _ 0 _ _ _ h0).trans ((row_whole _ _ _ _).trans ?_)
  rw [dif_neg (by omega)]

/-- The tiles as kept before each head, what the head reads of them, and the tile it stores. -/
abbrev CL0 : List (View.Piece (Elt Ideal) S4x128x128 .f32) := [⟨Rect.unit ![0, 0, 0] ![4, 128, 128] inb_S4x128x128_S4x128x128_0_0_0, CI⟩]
abbrev c0 : S1x128x128.Idx → EReal := (View.whole cc0_scratch0).readCov (Val := Elt Ideal) (CL0 CI) (Rect.unit (s := S4x128x128) ![0, 0, 0] ![1, 128, 128] inb_S4x128x128_S1x128x128_0_0_0).toLoadRect
abbrev CL1 : List (View.Piece (Elt Ideal) S4x128x128 .f32) :=
  ⟨Rect.unit ![0, 0, 0] ![1, 128, 128] inb_S4x128x128_S1x128x128_0_0_0, k0_pay27 (F := Ideal) (k0_pay20 (c0 CI)) (k0_pay25 K0 V0 (m0 MI) F0 Z0) (k0_pay26 (m0 MI) F0 Z0)⟩ :: CL0 CI
abbrev c1 : S1x128x128.Idx → EReal := (View.whole cc0_scratch0).readCov (Val := Elt Ideal) (CL1 K0 V0 F0 Z0 MI CI) (Rect.unit (s := S4x128x128) ![1, 0, 0] ![1, 128, 128] inb_S4x128x128_S1x128x128_1_0_0).toLoadRect
abbrev CL2 : List (View.Piece (Elt Ideal) S4x128x128 .f32) :=
  ⟨Rect.unit ![1, 0, 0] ![1, 128, 128] inb_S4x128x128_S1x128x128_1_0_0, k0_pay48 (F := Ideal) K1 V1 (m1 F0 Z0 MI) F1 Z1 (k0_pay43 (c1 K0 V0 F0 Z0 MI CI))⟩ :: CL1 K0 V0 F0 Z0 MI CI
abbrev c2 : S1x128x128.Idx → EReal := (View.whole cc0_scratch0).readCov (Val := Elt Ideal) (CL2 K0 K1 V0 V1 F0 F1 Z0 Z1 MI CI) (Rect.unit (s := S4x128x128) ![2, 0, 0] ![1, 128, 128] inb_S4x128x128_S1x128x128_2_0_0).toLoadRect
abbrev CL3 : List (View.Piece (Elt Ideal) S4x128x128 .f32) :=
  ⟨Rect.unit ![2, 0, 0] ![1, 128, 128] inb_S4x128x128_S1x128x128_2_0_0, k0_pay71 (F := Ideal) K2 V2 (m2 F0 F1 Z0 Z1 MI) F2 Z2 (k0_pay65 (c2 K0 K1 V0 V1 F0 F1 Z0 Z1 MI CI))⟩
    :: CL2 K0 K1 V0 V1 F0 F1 Z0 Z1 MI CI
abbrev c3 : S1x128x128.Idx → EReal := (View.whole cc0_scratch0).readCov (Val := Elt Ideal) (CL3 K0 K1 K2 V0 V1 V2 F0 F1 F2 Z0 Z1 Z2 MI CI) (Rect.unit (s := S4x128x128) ![3, 0, 0] ![1, 128, 128] inb_S4x128x128_S1x128x128_3_0_0).toLoadRect
abbrev CL4 : List (View.Piece (Elt Ideal) S4x128x128 .f32) :=
  ⟨Rect.unit ![3, 0, 0] ![1, 128, 128] inb_S4x128x128_S1x128x128_3_0_0, k0_pay90 (F := Ideal) (k0_pay83 (c3 K0 K1 K2 V0 V1 V2 F0 F1 F2 Z0 Z1 Z2 MI CI))
      (k0_pay88 K3 V3 (m3 F0 F1 F2 Z0 Z1 Z2 MI) F3 Z3) (k0_pay89 (m3 F0 F1 F2 Z0 Z1 Z2 MI) F3 Z3)⟩
    :: CL3 K0 K1 K2 V0 V1 V2 F0 F1 F2 Z0 Z1 Z2 MI CI

section Old
variable (i j : Fin 128)
theorem c0_at : c0 CI (ix3 0 i j) = CI (ix3 0 i j) := (tile_load _ 0 _ 0 i j rfl).trans (tile_whole _ _ _ _ _)
theorem c1_at : c1 K0 V0 F0 Z0 MI CI (ix3 0 i j) = CI (ix3 1 i j) :=
  (tile_load _ 1 _ 1 i j rfl).trans ((tile_skip _ _ 0 _ _ _ _ (by decide)).trans (tile_whole _ _ _ _ _))
theorem c2_at : c2 K0 K1 V0 V1 F0 F1 Z0 Z1 MI CI (ix3 0 i j) = CI (ix3 2 i j) :=
  (tile_load _ 2 _ 2 i j rfl).trans ((tile_skip _ _ 1 _ _ _ _ (by decide)).trans ((tile_skip _ _ 0 _ _ _ _ (by decide)).trans (tile_whole _ _ _ _ _)))
theorem c3_at : c3 K0 K1 K2 V0 V1 V2 F0 F1 F2 Z0 Z1 Z2 MI CI (ix3 0 i j) = CI (ix3 3 i j) :=
  (tile_load _ 3 _ 3 i j rfl).trans ((tile_skip _ _ 2 _ _ _ _ (by decide)).trans ((tile_skip _ _ 1 _ _ _ _ (by decide)).trans
    ((tile_skip _ _ 0 _ _ _ _ (by decide)).trans (tile_whole _ _ _ _ _))))
end Old

/-- The tiles at the end. -/
theorem tiles_end (h : Fin 4) (i j : Fin 128) :
    (View.whole cc0_scratch0).readCov (Val := Elt Ideal) (CL4 K0 K1 K2 K3 V0 V1 V2 V3 F0 F1 F2 F3 Z0 Z1 Z2 Z3 MI CI)
        (Rect.unit (s := S4x128x128) ![0, 0, 0] ![4, 128, 128] inb_S4x128x128_S4x128x128_0_0_0).toLoadRect (ix3 h i j)
      = cell ((![F0, F1, F2, F3] : Fin 4 → S8x1.Idx → EReal) h (ix2 7 0)) (MI (ix2 ⟨h.val, by omega⟩ 0)) (fun s => (![Z0, Z1, Z2, Z3] : Fin 4 → S8x1.Idx → EReal) h (ix2 s 0))
          (fun s => (![K0, K1, K2, K3] : Fin 4 → S8x128.Idx → EReal) h (ix2 s i)) (fun s => (![V0, V1, V2, V3] : Fin 4 → S8x128.Idx → EReal) h (ix2 s j)) (CI (ix3 h i j)) := by
  refine (tile_all _ h i j).trans ?_
  by_cases h3 : h.val = 3
  · obtain rfl : h = 3 := Fin.ext h3
    refine (tile_hit _ _ 3 _ _ _ _ rfl).trans ((upd_pay3 _ _ _ _ _ _ _ _).trans ?_)
    rw [upd, m3_at, c3_at]; rfl
  refine (tile_skip _ _ 3 _ _ _ _ h3).trans ?_
  by_cases h2 : h.val = 2
  · obtain rfl : h = 2 := Fin.ext h2
    refine (tile_hit _ _ 2 _ _ _ _ rfl).trans ((upd_pay2 _ _ _ _ _ _ _ _).trans ?_)
    rw [upd, m2_at, c2_at]; rfl
  refine (tile_skip _ _ 2 _ _ _ _ h2).trans ?_
  by_cases h1 : h.val = 1
  · obtain rfl : h = 1 := Fin.ext h1
    refine (tile_hit _ _ 1 _ _ _ _ rfl).trans ((upd_pay1 _ _ _ _ _ _ _ _).trans ?_)
    rw [upd, m1_at, c1_at]; rfl
  refine (tile_skip _ _ 1 _ _ _ _ h1).trans ?_
  obtain rfl : h = 0 := Fin.ext (by show h.val = 0; omega)
  refine (tile_hit _ _ 0 _ _ _ _ rfl).trans ((upd_pay _ _ _ _ _ _ _ _).trans ?_)
  rw [upd, m0_at, c0_at]; rfl

end Heads

/-! ## Gates, keys and values of one grid point -/

theorem lane_lt : ∀ i : Fin 128, IntOp.cmpi CmpIPredicate.slt (BitVec.ofNat 32 i.val) 64#32 = if i.val < 64 then 1#1 else 0#1 := by decide
theorem lane_eq : ∀ i : Fin 128, IntOp.cmpi CmpIPredicate.eq (BitVec.ofNat 32 i.val) 64#32 = if i.val = 64 then 1#1 else 0#1 := by decide
theorem row_le : ∀ q s : Fin 8, IntOp.cmpi CmpIPredicate.sle (BitVec.ofNat 32 q.val) (BitVec.ofNat 32 s.val) = if q.val ≤ s.val then 1#1 else 0#1 := by decide

section Point
variable (x0 : (⟨2, ![256, 3456]⟩ : Shape).Idx → EReal) (g1 g2 : (⟨1, ![4]⟩ : Shape).Idx → EReal) (b : Fin 32) (h : Fin 4)

section Keys
variable (x : S8x256.Idx → EReal)

theorem key_pick (hx : ∀ s k, x (ix2 s k) = tok x0 b s ⟨2304 + k.val, by omega⟩) (s : Fin 8) (i : Fin 128) (q : Fin 256) (hq : i.val < 64 → q.val = h.val * 64 + i.val) :
    Scalar.select (IntOp.cmpi CmpIPredicate.slt (BitVec.ofNat 32 i.val) 64#32) (x (ix2 s q) * Ideal.ofBits FTy.f32 0x3E000000#32) 0 = keyPad x0 b h i s := by
  rw [lane_lt, select_if]
  unfold keyPad key
  by_cases hi : i.val < 64
  · rw [if_pos hi, dif_pos hi, hx]
    refine congrArg (fun k => tok x0 b s k * _) (Fin.ext ?_)
    show 2304 + q.val = 2304 + (h.val * 64 + i.val)
    rw [hq hi]
  · rw [if_neg hi, dif_neg hi]

theorem val_pick (hx : ∀ s k, x (ix2 s k) = tok x0 b s ⟨2560 + k.val, by omega⟩) (s : Fin 8) (i : Fin 128) (q : Fin 256) (hq : i.val < 64 → q.val = h.val * 64 + i.val) :
    Scalar.select (IntOp.cmpi CmpIPredicate.slt (BitVec.ofNat 32 i.val) 64#32) (x (ix2 s q))
      (Scalar.select (IntOp.cmpi CmpIPredicate.eq (BitVec.ofNat 32 i.val) 64#32) (1 : EReal) 0) = valPad x0 b h i s := by
  rw [lane_lt, select_if, lane_eq, select_if]
  unfold valPad val
  by_cases hi : i.val < 64
  · rw [if_pos hi, dif_pos hi, hx]
    refine congrArg (fun k => tok x0 b s k) (Fin.ext ?_)
    show 2560 + q.val = 2560 + (h.val * 64 + i.val)
    rw [hq hi]
  · rw [if_neg hi, dif_neg hi]

abbrev lanes : IVec S8x128 32 := iota Kind.tc S8x128 32 [1] iota_S8x128_d1_w32

theorem key0_pay (hx : ∀ s k, x (ix2 s k) = tok x0 b s ⟨2304 + k.val, by omega⟩) (s : Fin 8) (i : Fin 128) :
    k0_pay15 (F := Ideal) lanes (k0_pay10 x) (ix2 s i) = keyPad x0 b 0 i s := by
  refine Eq.trans ?_ (key_pick x0 b 0 x hx s i ⟨i.val, by omega⟩ (fun _ => by show i.val = 0 * 64 + i.val; omega))
  pointwise [k0_pay15, k0_pay10]
theorem key1_pay (hx : ∀ s k, x (ix2 s k) = tok x0 b s ⟨2304 + k.val, by omega⟩) (s : Fin 8) (i : Fin 128) :
    k0_pay35 (F := Ideal) (k0_pay30 (k0_pay10 x)) (k0_pay34 lanes) (ix2 s i) = keyPad x0 b 1 i s := by
  refine Eq.trans ?_ (key_pick x0 b 1 x hx s i ⟨(i.val + 128 - 64) % 128, by omega⟩ (fun _ => by show (i.val + 128 - 64) % 128 = 1 * 64 + i.val; omega))
  pointwise [k0_pay35, k0_pay34, k0_pay30, k0_pay10]
theorem key2_pay (hx : ∀ s k, x (ix2 s k) = tok x0 b s ⟨2304 + k.val, by omega⟩) (s : Fin 8) (i : Fin 128) :
    k0_pay57 (F := Ideal) lanes (k0_pay10 x) (ix2 s i) = keyPad x0 b 2 i s := by
  refine Eq.trans ?_ (key_pick x0 b 2 x hx s i ⟨128 + i.val, by omega⟩ (fun _ => by show 128 + i.val = 2 * 64 + i.val; omega))
  pointwise [k0_pay57, k0_pay10]
theorem key3_pay (hx : ∀ s k, x (ix2 s k) = tok x0 b s ⟨2304 + k.val, by omega⟩) (s : Fin 8) (i : Fin 128) :
    k0_pay78 (F := Ideal) lanes (k0_pay10 x) (ix2 s i) = keyPad x0 b 3 i s := by
  refine Eq.trans ?_ (key_pick x0 b 3 x hx s i ⟨128 + (i.val + 128 - 64) % 128, by omega⟩ (fun _ => by show 128 + (i.val + 128 - 64) % 128 = 3 * 64 + i.val; omega))
  pointwise [k0_pay78, k0_pay10]

theorem val0_pay (hx : ∀ s k, x (ix2 s k) = tok x0 b s ⟨2560 + k.val, by omega⟩) (s : Fin 8) (i : Fin 128) :
    k0_pay16 (F := Ideal) lanes x (ix2 s i) = valPad x0 b 0 i s := by
  refine Eq.trans ?_ (val_pick x0 b 0 x hx s i ⟨i.val, by omega⟩ (fun _ => by show i.val = 0 * 64 + i.val; omega))
  pointwise [k0_pay16]
theorem val1_pay (hx : ∀ s k, x (ix2 s k) = tok x0 b s ⟨2560 + k.val, by omega⟩) (s : Fin 8) (i : Fin 128) :
    k0_pay36 (F := Ideal) lanes (k0_pay31 x) (ix2 s i) = valPad x0 b 1 i s := by
  refine Eq.trans ?_ (val_pick x0 b 1 x hx s i ⟨(i.val + 128 - 64) % 128, by omega⟩ (fun _ => by show (i.val + 128 - 64) % 128 = 1 * 64 + i.val; omega))
  pointwise [k0_pay36, k0_pay31]
theorem val2_pay (hx : ∀ s k, x (ix2 s k) = tok x0 b s ⟨2560 + k.val, by omega⟩) (s : Fin 8) (i : Fin 128) :
    k0_pay59 (F := Ideal) lanes (k0_pay54 x) (k0_pay58 lanes) 64#32 (ix2 s i) = valPad x0 b 2 i s := by
  refine Eq.trans ?_ (val_pick x0 b 2 x hx s i ⟨128 + i.val, by omega⟩ (fun _ => by show 128 + i.val = 2 * 64 + i.val; omega))
  pointwise [k0_pay59, k0_pay58, k0_pay54]
theorem val3_pay (hx : ∀ s k, x (ix2 s k) = tok x0 b s ⟨2560 + k.val, by omega⟩) (s : Fin 8) (i : Fin 128) :
    k0_pay79 (F := Ideal) lanes x (ix2 s i) = valPad x0 b 3 i s := by
  refine Eq.trans ?_ (val_pick x0 b 3 x hx s i ⟨128 + (i.val + 128 - 64) % 128, by omega⟩ (fun _ => by show 128 + (i.val + 128 - 64) % 128 = 3 * 64 + i.val; omega))
  pointwise [k0_pay79]
end Keys

section Gates
variable (x3 : S8x128.Idx → EReal) (x6 : S1x128.Idx → EReal)

theorem cum_pay (s : Fin 8) (l : Fin 128) : k0_pay8 (F := Ideal) x3 x6 (ix2 s l) = cum (fun q => lgs (x3 (ix2 q l) + x6 (ix2 0 l))) s := by
  pointwise [k0_pay8, k0_pay5, k0_pay6]
  unfold cum
  refine Finset.sum_congr rfl fun q _ => ?_
  rw [row_le, select_if]
  simp only [zero_sub]
  rfl

theorem logit_pay (s : Fin 8) (l : Fin 128) (hl : l.val < 4) : k0_pay9 (F := Ideal) x3 x6 (ix2 s l)
    = (x3 (ix2 s l) + x6 (ix2 0 l)) - k0_pay8 (F := Ideal) x3 x6 (ix2 s ⟨4 + l.val, by omega⟩) := by
  unfold k0_pay9
  generalize k0_pay8 (F := Ideal) x3 x6 = y
  pointwise [k0_pay5]
  have e : (⟨(l.val + 128 - 124) % 128, by omega⟩ : Fin 128) = ⟨4 + l.val, by omega⟩ := Fin.ext (by show (l.val + 128 - 124) % 128 = 4 + l.val; omega)
  rw [e]

theorem forget_pay (h3 : ∀ s k, x3 (ix2 s k) = tok x0 b s ⟨3328 + k.val, by omega⟩)
    (hf : ∀ h : Fin 4, x6 (ix2 0 ⟨4 + h.val, by omega⟩) = g2 (ix1 h)) (s : Fin 8) : k0_pay8 (F := Ideal) x3 x6 (ix2 s ⟨4 + h.val, by omega⟩) = forget x0 g2 b h s := by
  refine (cum_pay _ _ _ _).trans ?_
  unfold forget
  simp only [h3, hf]
  refine congrArg (fun f => cum f s) (funext fun q => ?_)
  refine congrArg (fun k => lgs (tok x0 b q k + _)) (Fin.ext ?_)
  show 3328 + (4 + h.val) = 3332 + h.val
  omega

theorem logit_at (h3 : ∀ s k, x3 (ix2 s k) = tok x0 b s ⟨3328 + k.val, by omega⟩) (hi : ∀ h : Fin 4, x6 (ix2 0 ⟨h.val, by omega⟩) = g1 (ix1 h))
    (hf : ∀ h : Fin 4, x6 (ix2 0 ⟨4 + h.val, by omega⟩) = g2 (ix1 h)) (s : Fin 8) : k0_pay9 (F := Ideal) x3 x6 (ix2 s ⟨h.val, by omega⟩) = logit x0 g1 g2 b h s := by
  refine (logit_pay _ _ _ _ h.isLt).trans ?_
  rw [forget_pay x0 g2 b h x3 x6 h3 hf, h3, hi]
  rfl
end Gates

section Cols
variable (y : S8x128.Idx → EReal) (s : Fin 8)
theorem colF0 : k0_pay17 (F := Ideal) y (ix2 s 0) = y (ix2 s 4) := by pointwise [k0_pay17]
theorem colF1 : k0_pay37 (F := Ideal) y (ix2 s 0) = y (ix2 s 5) := by pointwise [k0_pay37]
theorem colF2 : k0_pay60 (F := Ideal) y (ix2 s 0) = y (ix2 s 6) := by pointwise [k0_pay60]
theorem colF3 : k0_pay80 (F := Ideal) y (ix2 s 0) = y (ix2 s 7) := by pointwise [k0_pay80]
theorem colZ0 : k0_pay18 (F := Ideal) y (ix2 s 0) = y (ix2 s 0) := by pointwise [k0_pay18]
theorem colZ1 : k0_pay38 (F := Ideal) y (ix2 s 0) = y (ix2 s 1) := by pointwise [k0_pay38]
theorem colZ2 : k0_pay61 (F := Ideal) y (ix2 s 0) = y (ix2 s 2) := by pointwise [k0_pay61]
theorem colZ3 : k0_pay81 (F := Ideal) y (ix2 s 0) = y (ix2 s 3) := by pointwise [k0_pay81]
end Cols
end Point

theorem tiles_cast (x : S1x4x128x128.Idx → EReal) (h : Fin 4) (i j : Fin 128) : k0_pay3 (F := Ideal) x (ix3 h i j) = x (ix4 0 h i j) := by
  pointwise [k0_pay3]
theorem rows_cast (x : S1x8x128.Idx → EReal) (r : Fin 8) (l : Fin 128) : k0_pay4 (F := Ideal) x (ix2 r l) = x (ix3 0 r l) := by
  pointwise [k0_pay4]
theorem tiles_out (x : S4x128x128.Idx → EReal) (h : Fin 4) (i j : Fin 128) : k0_pay1 (F := Ideal) x (ix4 0 h i j) = x (ix3 h i j) := by
  pointwise [k0_pay1]
theorem rows_out (x : S8x128.Idx → EReal) (r : Fin 8) (l : Fin 128) : k0_pay2 (F := Ideal) x (ix3 0 r l) = x (ix2 r l) := by
  pointwise [k0_pay2]

end Cert.Ml
-- ==== Proof.Ml.lean ====
/-
  The matrix memory on the sample batch (program Kernel6Ideal): what each window holds at a grid point, one sequence of
  eight tokens, the tiles and stabiliser rows the point writes, and the claims.
-/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.MlPay
public import Idealize.ShloMosaic.Lib.Pointwise
public import Idealize.ShloMosaic.Lib.IdealHost
public import Idealize.ShloMosaic.Lib.Claim
public import Idealize.ShloMosaic.Lib.Quiescent
public import Idealize.ShloMosaic.Lib.Pipeline.ValueKit

@[expose] public section

set_option maxRecDepth 16384

noncomputable section

namespace Cert.Ml

open Idealize.ShloMosaic Idealize.ShloMosaic.TcCoe Idealize.SL.Sem
open scoped BigOperators
open Cert.Kernel6Ideal Cert.Kernel6Ideal.Gen

variable (m : (ℓ : Loc nD τ sig) → Buf (Elt Ideal) ℓ) (c : Dev nD)

/-- The arguments on device `c` that the state depends on. -/
abbrev a0 : (⟨2, ![256, 3456]⟩ : Shape).Idx → EReal := m ((c : Thread nD τ).loc main_arg0)
abbrev a1 : (⟨1, ![4]⟩ : Shape).Idx → EReal := m ((c : Thread nD τ).loc main_arg1)
abbrev a2 : (⟨1, ![4]⟩ : Shape).Idx → EReal := m ((c : Thread nD τ).loc main_arg2)
abbrev a4 : (⟨4, ![32, 4, 64, 64]⟩ : Shape).Idx → EReal := m ((c : Thread nD τ).loc main_arg4)
abbrev a5 : (⟨3, ![32, 4, 64]⟩ : Shape).Idx → EReal := m ((c : Thread nD τ).loc main_arg5)
abbrev a6 : (⟨2, ![32, 4]⟩ : Shape).Idx → EReal := m ((c : Thread nD τ).loc main_arg6)

/-! ## The operands prepared before the call -/

/-- The two biases in one row of lanes. -/
abbrev biasRow (u v : S4.Idx → EReal) : S1x128.Idx → EReal :=
  broadcastInDim S1x128 ![1] bcast_S128_S1x128_1 (concatenate S128 0 [⟨S4, u⟩, ⟨S4, v⟩,
    ⟨S120, (broadcastInDim S120 ![] bcast_S_S120 (constant (F := Ideal) S_ .f32 0x00000000#32) : S120.Idx → EReal)⟩] concatenates_S4_S4_S120_S128_d0)

theorem bias_row : V m c main_v2 = biasRow (a1 m c) (a2 m c) := rfl

theorem bias_i (h : Fin 4) : V m c main_v2 (ix2 0 (⟨h.val, by omega⟩ : Fin 128)) = a1 m c (ix1 h) := by
  rw [bias_row]
  generalize a1 m c = u
  generalize a2 m c = v
  pointwise [biasRow]

theorem bias_f (h : Fin 4) : V m c main_v2 (ix2 0 (⟨4 + h.val, by omega⟩ : Fin 128)) = a2 m c (ix1 h) := by
  rw [bias_row]
  generalize a1 m c = u
  generalize a2 m c = v
  pointwise [biasRow]

/-- The old state and normaliser side by side, zeros to their right and below. -/
abbrev paddedState (u : S32x4x64x64.Idx → EReal) (v : S32x4x64.Idx → EReal) : S32x4x128x128.Idx → EReal :=
  concatenate S32x4x128x128 2 [⟨S32x4x64x128, (concatenate S32x4x64x128 3 [⟨S32x4x64x64, u⟩,
      ⟨S32x4x64x1, (broadcastInDim S32x4x64x1 ![0, 1, 2] bcast_S32x4x64_S32x4x64x1_0_1_2 v : S32x4x64x1.Idx → EReal)⟩,
      ⟨S32x4x64x63, (broadcastInDim S32x4x64x63 ![] bcast_S_S32x4x64x63 (constant (F := Ideal) S_ .f32 0x00000000#32) : S32x4x64x63.Idx → EReal)⟩]
      concatenates_S32x4x64x64_S32x4x64x1_S32x4x64x63_S32x4x64x128_d3 : S32x4x64x128.Idx → EReal)⟩,
    ⟨S32x4x64x128, (broadcastInDim S32x4x64x128 ![] bcast_S_S32x4x64x128 (constant (F := Ideal) S_ .f32 0x00000000#32) : S32x4x64x128.Idx → EReal)⟩]
    concatenates_S32x4x64x128_S32x4x64x128_S32x4x128x128_d2

theorem state_padded : V m c main_v8 = paddedState (a4 m c) (a5 m c) := rfl

theorem old_tiles (b : Fin 32) (h : Fin 4) (i j : Fin 128) : V m c main_v8 (ix4 b h i j) = oldPad (a4 m c) (a5 m c) b h i j := by
  rw [state_padded]
  unfold oldPad
  generalize a4 m c = u
  generalize a5 m c = v
  pointwise [paddedState]
  split
  · split
    · rfl
    · rename_i hj
      by_cases h64 : j.val = 64
      · rw [dif_pos (show j.val - 64 < 1 by omega), if_pos h64]
      · rw [dif_neg (show ¬ j.val - 64 < 1 by omega), if_neg h64]
  · rfl

theorem old_rows (b : Fin 32) (r : Fin 8) (l : Fin 128) : V m c main_v12 (ix3 b r l) = if hr : r.val < 4 then a6 m c (ix2 b ⟨r.val, hr⟩) else 0 := by
  entry_read
  pointwise

/-- The block index of each window at each grid point. -/
theorem idx_at : ∀ t : Fin grid0.N, win0_1.index t = ![t.val, 9] ∧ win0_2.index t = ![t.val, 10] ∧ win0_3.index t = ![t.val, 26]
    ∧ win0_6.index t = ![0, 0] ∧ win0_8.index t = ![t.val, 0, 0, 0] ∧ win0_9.index t = ![t.val, 0, 0]
    ∧ win0_11.index t = ![t.val, 0, 0, 0] ∧ win0_12.index t = ![t.val, 0, 0] := by
  decide +kernel

section Blocks
variable (t : Fin cfg0.N) (b : Fin 32) (hb : b.val = t.val)

theorem blk6 (l : Fin 128) : iblk m c 6 t (ix2 (0 : Fin 1) l) = V m c main_v2 (ix2 0 l) := by
  have e : ((cfg0.win 6).blk t).view.emb (ix2 (0 : Fin 1) l) = ix2 (0 : Fin 1) l := by blk_ext [idx_at t]
  unfold iblk
  rw [View.read_apply, e]
  rfl

include hb

theorem blk1 (s : Fin 8) (k : Fin 256) : X0_1 m c t (ix2 s k) = tok (a0 m c) b s ⟨2304 + k.val, by omega⟩ := by
  unfold X0_1 Pipeline.Window.fill tok
  rw [dif_pos (moved0_1 t (ix2 s k))]
  blk_ext [iblk, V, idx_at t]
theorem blk2 (s : Fin 8) (k : Fin 256) : X0_2 m c t (ix2 s k) = tok (a0 m c) b s ⟨2560 + k.val, by omega⟩ := by
  unfold X0_2 Pipeline.Window.fill tok
  rw [dif_pos (moved0_2 t (ix2 s k))]
  blk_ext [iblk, V, idx_at t]
theorem blk3 (s : Fin 8) (k : Fin 128) : iblk m c 3 t (ix2 s k) = tok (a0 m c) b s ⟨3328 + k.val, by omega⟩ := by
  unfold tok
  blk_ext [iblk, V, idx_at t]
theorem blk8 (h : Fin 4) (i j : Fin 128) : iblk m c 8 t (ix4 (0 : Fin 1) h i j) = oldPad (a4 m c) (a5 m c) b h i j := by
  have e : ((cfg0.win 8).blk t).view.emb (ix4 (0 : Fin 1) h i j) = ix4 b h i j := by blk_ext [idx_at t]
  unfold iblk
  rw [View.read_apply, e]
  exact old_tiles m c b h i j
theorem blk9 (r : Fin 8) (l : Fin 128) : iblk m c 9 t (ix3 (0 : Fin 1) r l) = if hr : r.val < 4 then a6 m c (ix2 b ⟨r.val, hr⟩) else 0 := by
  have e : ((cfg0.win 9).blk t).view.emb (ix3 (0 : Fin 1) r l) = ix3 b r l := by blk_ext [idx_at t]
  unfold iblk
  rw [View.read_apply, e]
  exact old_rows m c b r l
end Blocks

/-! ## One grid point -/

section Point
variable (t : Fin cfg0.N) (b : Fin 32) (hb : b.val = t.val)

abbrev cums : S8x128.Idx → EReal := k0_pay8 (F := Ideal) (iblk m c 3 t) (iblk m c 6 t)
abbrev logits : S8x128.Idx → EReal := k0_pay9 (F := Ideal) (iblk m c 3 t) (iblk m c 6 t)
abbrev keys : S8x256.Idx → EReal := k0_pay10 (F := Ideal) (X0_1 m c t)

/-- The stabilisers and the tiles at the end of the point. -/
abbrev endRows : S8x128.Idx → EReal :=
  (View.whole cc0_scratch1).readCov (Val := Elt Ideal) (ML4 (k0_pay17 (F := Ideal) (cums m c t)) (k0_pay37 (F := Ideal) (cums m c t)) (k0_pay60 (F := Ideal) (cums m c t)) (k0_pay80 (F := Ideal) (cums m c t))
    (k0_pay18 (F := Ideal) (logits m c t)) (k0_pay38 (F := Ideal) (logits m c t)) (k0_pay61 (F := Ideal) (logits m c t)) (k0_pay81 (F := Ideal) (logits m c t)) (k0_pay4 (F := Ideal) (iblk m c 9 t)))
    (Rect.unit (s := S8x128) ![0, 0] ![8, 128] inb_S8x128_S8x128_0_0).toLoadRect
abbrev endTiles : S4x128x128.Idx → EReal :=
  (View.whole cc0_scratch0).readCov (Val := Elt Ideal) (CL4 (k0_pay15 (F := Ideal) lanes (keys m c t)) (k0_pay35 (F := Ideal) (k0_pay30 (F := Ideal) (keys m c t)) (k0_pay34 lanes)) (k0_pay57 (F := Ideal) lanes (keys m c t))
    (k0_pay78 (F := Ideal) lanes (keys m c t)) (k0_pay16 (F := Ideal) lanes (X0_2 m c t)) (k0_pay36 (F := Ideal) lanes (k0_pay31 (F := Ideal) (X0_2 m c t)))
    (k0_pay59 (F := Ideal) lanes (k0_pay54 (F := Ideal) (X0_2 m c t)) (k0_pay58 lanes) 64#32) (k0_pay79 (F := Ideal) lanes (X0_2 m c t))
    (k0_pay17 (F := Ideal) (cums m c t)) (k0_pay37 (F := Ideal) (cums m c t)) (k0_pay60 (F := Ideal) (cums m c t)) (k0_pay80 (F := Ideal) (cums m c t))
    (k0_pay18 (F := Ideal) (logits m c t)) (k0_pay38 (F := Ideal) (logits m c t)) (k0_pay61 (F := Ideal) (logits m c t)) (k0_pay81 (F := Ideal) (logits m c t)) (k0_pay4 (F := Ideal) (iblk m c 9 t)) (k0_pay3 (F := Ideal) (iblk m c 8 t)))
    (Rect.unit (s := S4x128x128) ![0, 0, 0] ![4, 128, 128] inb_S4x128x128_S4x128x128_0_0_0).toLoadRect

include hb

theorem cums_at (h : Fin 4) (s : Fin 8) : cums m c t (ix2 s (⟨4 + h.val, by omega⟩ : Fin 128)) = forget (a0 m c) (a2 m c) b h s :=
  forget_pay (a0 m c) (a2 m c) b h _ _ (blk3 m c t b hb) (fun h => (blk6 m c t _).trans (bias_f m c h)) s
theorem logits_at (h : Fin 4) (s : Fin 8) : logits m c t (ix2 s (⟨h.val, by omega⟩ : Fin 128)) = logit (a0 m c) (a1 m c) (a2 m c) b h s :=
  logit_at (a0 m c) (a1 m c) (a2 m c) b h _ _ (blk3 m c t b hb) (fun h => (blk6 m c t _).trans (bias_i m c h)) (fun h => (blk6 m c t _).trans (bias_f m c h)) s

theorem forgets_at (h : Fin 4) (s : Fin 8) : (![k0_pay17 (F := Ideal) (cums m c t), k0_pay37 (F := Ideal) (cums m c t), k0_pay60 (F := Ideal) (cums m c t), k0_pay80 (F := Ideal) (cums m c t)] : Fin 4 → S8x1.Idx → EReal) h (ix2 s 0)
    = forget (a0 m c) (a2 m c) b h s := by
  match h with
  | ⟨0, _⟩ => exact (colF0 _ s).trans (cums_at m c t b hb 0 s)
  | ⟨1, _⟩ => exact (colF1 _ s).trans (cums_at m c t b hb 1 s)
  | ⟨2, _⟩ => exact (colF2 _ s).trans (cums_at m c t b hb 2 s)
  | ⟨3, _⟩ => exact (colF3 _ s).trans (cums_at m c t b hb 3 s)
theorem inputs_at (h : Fin 4) (s : Fin 8) : (![k0_pay18 (F := Ideal) (logits m c t), k0_pay38 (F := Ideal) (logits m c t), k0_pay61 (F := Ideal) (logits m c t), k0_pay81 (F := Ideal) (logits m c t)] : Fin 4 → S8x1.Idx → EReal) h (ix2 s 0)
    = logit (a0 m c) (a1 m c) (a2 m c) b h s := by
  match h with
  | ⟨0, _⟩ => exact (colZ0 _ s).trans (logits_at m c t b hb 0 s)
  | ⟨1, _⟩ => exact (colZ1 _ s).trans (logits_at m c t b hb 1 s)
  | ⟨2, _⟩ => exact (colZ2 _ s).trans (logits_at m c t b hb 2 s)
  | ⟨3, _⟩ => exact (colZ3 _ s).trans (logits_at m c t b hb 3 s)
theorem keys_at (h : Fin 4) (s : Fin 8) (i : Fin 128) : (![k0_pay15 (F := Ideal) lanes (keys m c t), k0_pay35 (F := Ideal) (k0_pay30 (F := Ideal) (keys m c t)) (k0_pay34 lanes), k0_pay57 (F := Ideal) lanes (keys m c t),
    k0_pay78 (F := Ideal) lanes (keys m c t)] : Fin 4 → S8x128.Idx → EReal) h (ix2 s i) = keyPad (a0 m c) b h i s := by
  match h with
  | ⟨0, _⟩ => exact key0_pay _ b _ (blk1 m c t b hb) s i
  | ⟨1, _⟩ => exact key1_pay _ b _ (blk1 m c t b hb) s i
  | ⟨2, _⟩ => exact key2_pay _ b _ (blk1 m c t b hb) s i
  | ⟨3, _⟩ => exact key3_pay _ b _ (blk1 m c t b hb) s i
theorem vals_at (h : Fin 4) (s : Fin 8) (i : Fin 128) : (![k0_pay16 (F := Ideal) lanes (X0_2 m c t), k0_pay36 (F := Ideal) lanes (k0_pay31 (F := Ideal) (X0_2 m c t)),
    k0_pay59 (F := Ideal) lanes (k0_pay54 (F := Ideal) (X0_2 m c t)) (k0_pay58 lanes) 64#32, k0_pay79 (F := Ideal) lanes (X0_2 m c t)] : Fin 4 → S8x128.Idx → EReal) h (ix2 s i)
    = valPad (a0 m c) b h i s := by
  match h with
  | ⟨0, _⟩ => exact val0_pay _ b _ (blk2 m c t b hb) s i
  | ⟨1, _⟩ => exact val1_pay _ b _ (blk2 m c t b hb) s i
  | ⟨2, _⟩ => exact val2_pay _ b _ (blk2 m c t b hb) s i
  | ⟨3, _⟩ => exact val3_pay _ b _ (blk2 m c t b hb) s i

theorem tile_at (h : Fin 4) (i j : Fin 128) : k0_pay1 (F := Ideal) (endTiles m c t) (ix4 0 h i j)
    = tile (a0 m c) (a1 m c) (a2 m c) (a4 m c) (a5 m c) (a6 m c) b h i j := by
  refine (tiles_out _ h i j).trans ((tiles_end _ _ _ _ _ _ _ _ _ _ _ _ _ _ _ _ _ _ h i j).trans ?_)
  unfold tile
  refine congr (congr (congr (congr (congr (congrArg cell (forgets_at m c t b hb h 7)) ?_) (funext fun s => inputs_at m c t b hb h s))
    (funext fun s => keys_at m c t b hb h s i)) (funext fun s => vals_at m c t b hb h s j)) ?_
  · exact (rows_cast _ _ _).trans ((blk9 m c t b hb _ _).trans (dif_pos h.isLt))
  · exact (tiles_cast _ _ _ _).trans (blk8 m c t b hb _ _ _)

theorem stab_at (r : Fin 8) (l : Fin 128) : k0_pay2 (F := Ideal) (endRows m c t) (ix3 0 r l) = stab (a0 m c) (a1 m c) (a2 m c) (a6 m c) b r := by
  refine (rows_out _ r l).trans ((rows_end _ _ _ _ _ _ _ _ _ r l).trans ?_)
  unfold stab
  by_cases hr : r.val < 4
  · rw [dif_pos hr, dif_pos hr]
    refine congr (congr (congrArg newm (forgets_at m c t b hb ⟨r.val, hr⟩ 7)) ?_) (funext fun s => inputs_at m c t b hb ⟨r.val, hr⟩ s)
    exact (rows_cast _ _ _).trans ((blk9 m c t b hb _ _).trans (dif_pos hr))
  · rw [dif_neg hr, dif_neg hr]
    exact (rows_cast _ _ _).trans ((blk9 m c t b hb _ _).trans (dif_neg hr))
end Point

/-! ## The two arrays the kernel leaves -/

section Arrays
open Cert.Reference6Ideal.Read

/-- The reference's results at the kernel's arguments. -/
abbrev outC : S32x4x128x128.Idx → EReal := val_main_v62 (F := Ideal) (a0 m c) (a1 m c) (a2 m c) (a4 m c) (a5 m c) (a6 m c)
abbrev outM : S32x8x128.Idx → EReal := val_main_v66 (F := Ideal) (a0 m c) (a1 m c) (a2 m c) (a6 m c)

theorem final11 : (dats m 0 c).arrAt 11 cfg0.N = outC m c := by
  refine (dats m 0 c).arrAt_eq_of_covers 11 _ (by decide +kernel) fun t hf y => ?_
  have ht : t.val < 32 := N_0 ▸ t.isLt
  have h1 : (y 1).val < 4 := (y 1).isLt
  have h2 : (y 2).val < 128 := (y 2).isLt
  have h3 : (y 3).val < 128 := (y 3).isLt
  have key := (tile_at m c t ⟨t.val, ht⟩ rfl ⟨(y 1).val, h1⟩ ⟨(y 2).val, h2⟩ ⟨(y 3).val, h3⟩).trans (ref_tile _ _ _ _ _ _ _ _ _ _).symm
  have e : ((cfg0.win 11).blk t).view.emb y
      = (ix4 (⟨t.val, ht⟩ : Fin 32) (⟨(y 1).val, h1⟩ : Fin 4) (⟨(y 2).val, h2⟩ : Fin 128) (⟨(y 3).val, h3⟩ : Fin 128)) := by
    blk_ext [idx_at t]
  have ep : y = ix4 (0 : Fin 1) (⟨(y 1).val, h1⟩ : Fin 4) (⟨(y 2).val, h2⟩ : Fin 128) (⟨(y 3).val, h3⟩ : Fin 128) := by
    blk_ext []
  blk_simp
  rw [after0_11]
  unfold outsAt0
  frame_out
  exact Eq.trans (congrArg _ ep) (key.trans (congrArg (outC m c) e.symm))

theorem final12 : (dats m 0 c).arrAt 12 cfg0.N = outM m c := by
  refine (dats m 0 c).arrAt_eq_of_covers 12 _ (by decide +kernel) fun t hf y => ?_
  have ht : t.val < 32 := N_0 ▸ t.isLt
  have h1 : (y 1).val < 8 := (y 1).isLt
  have h2 : (y 2).val < 128 := (y 2).isLt
  have key := (stab_at m c t ⟨t.val, ht⟩ rfl ⟨(y 1).val, h1⟩ ⟨(y 2).val, h2⟩).trans (ref_stab _ _ _ _ _ _ ⟨(y 2).val, h2⟩).symm
  have e : ((cfg0.win 12).blk t).view.emb y = (ix3 (⟨t.val, ht⟩ : Fin 32) (⟨(y 1).val, h1⟩ : Fin 8) (⟨(y 2).val, h2⟩ : Fin 128)) := by
    blk_ext [idx_at t]
  have ep : y = ix3 (0 : Fin 1) (⟨(y 1).val, h1⟩ : Fin 8) (⟨(y 2).val, h2⟩ : Fin 128) := by
    blk_ext []
  blk_simp
  rw [after0_12]
  unfold outsAt0
  frame_out
  exact Eq.trans (congrArg _ ep) (key.trans (congrArg (outM m c) e.symm))

end Arrays

/-! ## The claims -/

/-- Both kernels' frames are the generated ones. -/
theorem frame_bits : Cert.quiescent_Kernel6 := fun m ρ _ => Cert.Kernel6.Gen.frame m ρ
theorem frame_ideal : Cert.quiescent_Kernel6Ideal := fun m ρ _ => Cert.Kernel6Ideal.Gen.frame m ρ

/-- The reference's frame: its run read at the arguments; it declares no semaphore. -/
theorem frame_ref : Cert.quiescent_Reference6Ideal := fun m ρ _ =>
  (θ_run Cert.Reference6Ideal.defs _ _).mono
    (fun r h => ⟨fun c => (h c).2.2, Idealize.ShloMosaic.sem_eq_zero_of_no_sems (by decide) r.2⟩)
    (Cert.Reference6Ideal.Value.run (F := Ideal) m ρ)

/-- No operation was rewritten between the kernel and its idealized form. -/
theorem preserved : Cert.preserves_Kernel6_Kernel6Ideal := trivial

/-- From agreeing arguments the kernel's two result arrays end at the reference's. -/
theorem value : Cert.algebraic_Kernel6Ideal_Reference6Ideal := by
  intro m ρ m' ρ' _ hagree
  refine ⟨fun c => outC m c, fun c => outM m c, ?_, ?_⟩
  · exact (θ_run Cert.Kernel6Ideal.defs _ _).mono (fun _ h c =>
      ⟨(h c).2.1.trans (final11 m c), (h c).2.2.1.trans (final12 m c), (h c).2.2.2⟩)
      (Cert.Kernel6Ideal.Value.run_blocks (F := Ideal) m ρ)
  · refine (θ_run Cert.Reference6Ideal.defs _ _).mono (fun _ h c => ?_)
      (Cert.Reference6Ideal.Value.run (F := Ideal) m' ρ')
    obtain ⟨h0, h1, h2, h3, h4, h5, h6⟩ := hagree c
    obtain ⟨r0, r1, rest⟩ := h c
    refine ⟨r0.trans ?_, r1.trans ?_, rest⟩
    · refine (Cert.Reference6Ideal.Read.val_main_v62_eq (F := Ideal) _ _).trans ?_
      show Cert.Reference6Ideal.Read.val_main_v62 (F := Ideal) (m' (c.tc.loc Cert.Reference6Ideal.main_arg0)) (m' (c.tc.loc Cert.Reference6Ideal.main_arg1)) (m' (c.tc.loc Cert.Reference6Ideal.main_arg2)) (m' (c.tc.loc Cert.Reference6Ideal.main_arg4)) (m' (c.tc.loc Cert.Reference6Ideal.main_arg5)) (m' (c.tc.loc Cert.Reference6Ideal.main_arg6)) = outC m c
      rw [h0, h1, h2, h4, h5, h6]
    · refine (Cert.Reference6Ideal.Read.val_main_v66_eq (F := Ideal) _ _).trans ?_
      show Cert.Reference6Ideal.Read.val_main_v66 (F := Ideal) (m' (c.tc.loc Cert.Reference6Ideal.main_arg0)) (m' (c.tc.loc Cert.Reference6Ideal.main_arg1)) (m' (c.tc.loc Cert.Reference6Ideal.main_arg2)) (m' (c.tc.loc Cert.Reference6Ideal.main_arg6)) = outM m c
      rw [h0, h1, h2, h6]

end Cert.Ml
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Rg
public import proofs.«01_k».proof.Proof.OutProj
public import proofs.«01_k».proof.Proof.OutProjS
public import proofs.«01_k».proof.Proof.InProjS
public import proofs.«01_k».proof.Proof.InProj
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel4.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel6.Frame
public import proofs.«01_k».proof.Proof.Gen.Kernel5.Frame
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Ml
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Rg.frame_bits, Cert.Rg.frame_ideal, Cert.Rg.frame_ref,
  Cert.InProj.frame_bits, Cert.InProj.frame_ideal, Cert.InProj.frame_ref,
  Cert.OutProj.frame_bits, Cert.OutProj.frame_ideal, Cert.OutProj.frame_ref,
  Cert.InProjS.frame_bits, Cert.InProjS.frame_ideal, Cert.InProjS.frame_ref,
  Cert.OutProjS.frame_bits, Cert.OutProjS.frame_ideal, Cert.OutProjS.frame_ref,
  Cert.Ml.frame_bits, Cert.Ml.frame_ideal, Cert.Ml.frame_ref,
  Cert.Rg.preserved, Cert.Rg.value,
  Cert.InProj.preserved, Cert.InProj.value,
  Cert.OutProj.preserved, Cert.OutProj.value,
  Cert.InProjS.preserved, Cert.InProjS.value,
  Cert.OutProjS.preserved, Cert.OutProjS.value,
  Cert.Ml.preserved, Cert.Ml.value⟩

end Cert.Proof

end
